-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_image_index [hPre_image_index : Cert.Pre_image_index.Facts] (m : (ℓ : Loc Cert.KernelIdeal.nD Cert.KernelIdeal.τ Cert.KernelIdeal.sig) → Buf (Elt Ideal) ℓ) : Prop :=
  ∀ c : Dev Cert.KernelIdeal.nD,
    (Cert.Pre_image_index.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_image_index [hPre_image_index : Cert.Pre_image_index.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_image_index.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_image_index [hKernelIdeal : Cert.KernelIdeal.Facts] [hPre_image_index : Cert.Pre_image_index.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_image_index m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_image_index [hReferenceIdeal : Cert.ReferenceIdeal.Facts] [hPre_image_index : Cert.Pre_image_index.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_image_index m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_image_index [hKernelIdeal : Cert.KernelIdeal.Facts] [hReferenceIdeal : Cert.ReferenceIdeal.Facts] [hPre_image_index : Cert.Pre_image_index.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_image_index m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v214) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_image_index : Cert.Pre_image_index.Facts),
    quiescent_Kernel (hKernel := hKernel)
    ∧ quiescent_KernelIdeal (hKernelIdeal := hKernelIdeal)
    ∧ quiescent_KernelIdeal_pre_image_index (hKernelIdeal := hKernelIdeal) (hPre_image_index := hPre_image_index)
    ∧ quiescent_ReferenceIdeal (hReferenceIdeal := hReferenceIdeal)
    ∧ quiescent_ReferenceIdeal_pre_image_index (hReferenceIdeal := hReferenceIdeal) (hPre_image_index := hPre_image_index)
    ∧ preserves_Kernel_KernelIdeal
    ∧ algebraic_KernelIdeal_ReferenceIdeal_pre_image_index (hKernelIdeal := hKernelIdeal) (hReferenceIdeal := hReferenceIdeal) (hPre_image_index := hPre_image_index)
-- ==== Pre_image_index.lean ====
abbrev S2x256x50x50 : Shape := ⟨4, ![2, 256, 50, 50]⟩
abbrev S512x5 : Shape := ⟨2, ![512, 5]⟩
abbrev S512x1 : Shape := ⟨2, ![512, 1]⟩
abbrev S512 : Shape := ⟨1, ![512]⟩
abbrev S_ : Shape := ⟨0, ![]⟩

class Facts : Prop where
  slices_S512x5_S512x1_0_0 : S512x5.Slices ![0, 0] S512x1
  shapeCasts_S512x1_S512 : S512x1.ShapeCasts S512
  bcast_S_S512 : S_.BroadcastsInDim S512 (![] : Fin 0 → Fin S512.rank)

variable [Facts]

def fn {F : FTy → Type} [FloatOps F] (main_arg0 : FVec F S2x256x50x50 .f32) (main_arg1 : FVec F S512x5 .f32) : IVec S512 1 :=
  let main_v0 : FVec F S512x1 .f32 := (extractStridedSlice S512x1 ![0, 0] · slices_S512x5_S512x1_0_0) main_arg1
  let main_v1 : FVec F S512 .f32 := shapeCast S512 main_v0 shapeCasts_S512x1_S512
  let main_cst : FVec F S_ .f32 := constant S_ .f32 0x00000000#32
  let main_v2 : FVec F S512 .f32 := broadcastInDim S512 ![] bcast_S_S512 main_cst
  let main_v3 : IVec S512 1 := cmpf .oeq main_v1 main_v2
  let main_cst_0 : FVec F S_ .f32 := constant S_ .f32 0x3F800000#32
  let main_v4 : FVec F S512 .f32 := broadcastInDim S512 ![] bcast_S_S512 main_cst_0
  let main_v5 : IVec S512 1 := cmpf .oeq main_v1 main_v4
  let main_v6 : IVec S512 1 := ori main_v3 main_v5
  main_v6
-- ==== Kernel.lean ====
abbrev S2x256x50x50 : Shape := ⟨4, ![2, 256, 50, 50]⟩
abbrev S512x5 : Shape := ⟨2, ![512, 5]⟩
abbrev S50x50x2x256 : Shape := ⟨4, ![50, 50, 2, 256]⟩
abbrev S2500x512 : Shape := ⟨2, ![2500, 512]⟩
abbrev S49x512x256 : Shape := ⟨3, ![49, 512, 256]⟩
abbrev S64x5 : Shape := ⟨2, ![64, 5]⟩
abbrev S49x64x256 : Shape := ⟨3, ![49, 64, 256]⟩
abbrev S100x12800 : Shape := ⟨2, ![100, 12800]⟩
abbrev S2500x256 : Shape := ⟨2, ![2500, 256]⟩
abbrev S50x12800 : Shape := ⟨2, ![50, 12800]⟩
abbrev S64x1 : Shape := ⟨2, ![64, 1]⟩
abbrev S64x14 : Shape := ⟨2, ![64, 14]⟩
abbrev S64x14x1 : Shape := ⟨3, ![64, 14, 1]⟩
abbrev S64x14x100 : Shape := ⟨3, ![64, 14, 100]⟩
abbrev S64x7x2x100 : Shape := ⟨4, ![64, 7, 2, 100]⟩
abbrev S64x7x100 : Shape := ⟨3, ![64, 7, 100]⟩
abbrev S64x14x50 : Shape := ⟨3, ![64, 14, 50]⟩
abbrev S64x7x2x50 : Shape := ⟨4, ![64, 7, 2, 50]⟩
abbrev S64x7x50 : Shape := ⟨3, ![64, 7, 50]⟩
abbrev S448x100 : Shape := ⟨2, ![448, 100]⟩
abbrev S448x12800 : Shape := ⟨2, ![448, 12800]⟩
abbrev S448x50x256 : Shape := ⟨3, ![448, 50, 256]⟩
abbrev S64x1x7x50 : Shape := ⟨4, ![64, 1, 7, 50]⟩
abbrev S64x7x7x50 : Shape := ⟨4, ![64, 7, 7, 50]⟩
abbrev S448x7x50 : Shape := ⟨3, ![448, 7, 50]⟩
abbrev S448x7x256 : Shape := ⟨3, ![448, 7, 256]⟩
abbrev S64x7x7x256 : Shape := ⟨4, ![64, 7, 7, 256]⟩
abbrev S7x7x64x256 : Shape := ⟨4, ![7, 7, 64, 256]⟩
abbrev S7x7x512x256 : Shape := ⟨4, ![7, 7, 512, 256]⟩
abbrev S512x256x7x7 : Shape := ⟨4, ![512, 256, 7, 7]⟩

abbrev nBuf : Space → Nat
  | .hbm => 7
  | .vmem => 6
  | .smem => 0
  | _ => 0

abbrev bufTy : (tb : Table) → Fin (tcTables nBuf tb) → BufTy
  | .hbm, ⟨0, _⟩ => ⟨S2x256x50x50, .f32⟩
  | .hbm, ⟨1, _⟩ => ⟨S512x5, .f32⟩
  | .hbm, ⟨2, _⟩ => ⟨S50x50x2x256, .f32⟩
  | .hbm, ⟨3, _⟩ => ⟨S2500x512, .f32⟩
  | .hbm, ⟨4, _⟩ => ⟨S49x512x256, .f32⟩
  | .hbm, ⟨5, _⟩ => ⟨S7x7x512x256, .f32⟩
  | .hbm, ⟨6, _⟩ => ⟨S512x256x7x7, .f32⟩
  | .local _ .vmem, ⟨0, _⟩ => ⟨S2500x512, .f32⟩
  | .local _ .vmem, ⟨1, _⟩ => ⟨S64x5, .f32⟩
  | .local _ .vmem, ⟨2, _⟩ => ⟨S64x5, .f32⟩
  | .local _ .vmem, ⟨3, _⟩ => ⟨S49x64x256, .f32⟩
  | .local _ .vmem, ⟨4, _⟩ => ⟨S49x64x256, .f32⟩
  | .local _ .vmem, ⟨5, _⟩ => ⟨S100x12800, .bf16⟩
  | _, _ => ⟨S2x256x50x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S2500x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S49x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S2x256x50x50 : Shape := ⟨4, ![2, 256, 50, 50]⟩
abbrev S512x5 : Shape := ⟨2, ![512, 5]⟩
abbrev S512x1 : Shape := ⟨2, ![512, 1]⟩
abbrev S512 : Shape := ⟨1, ![512]⟩
abbrev S_ : Shape := ⟨0, ![]⟩
abbrev S14 : Shape := ⟨1, ![14]⟩
abbrev S1x14 : Shape := ⟨2, ![1, 14]⟩
abbrev S512x14 : Shape := ⟨2, ![512, 14]⟩
abbrev S512x14x1 : Shape := ⟨3, ![512, 14, 1]⟩
abbrev S512x14x14 : Shape := ⟨3, ![512, 14, 14]⟩
abbrev S512x196 : Shape := ⟨2, ![512, 196]⟩
abbrev S512x1x14 : Shape := ⟨3, ![512, 1, 14]⟩
abbrev S512x196x1 : Shape := ⟨3, ![512, 196, 1]⟩
abbrev S512x196x3 : Shape := ⟨3, ![512, 196, 3]⟩
abbrev S512x196x256 : Shape := ⟨3, ![512, 196, 256]⟩
abbrev S512x7x2x7x2x256 : Shape := ⟨6, ![512, 7, 2, 7, 2, 256]⟩
abbrev S512x7x7x256 : Shape := ⟨4, ![512, 7, 7, 256]⟩
abbrev S512x256x7x7 : Shape := ⟨4, ![512, 256, 7, 7]⟩

abbrev nBuf : Space → Nat
  | .hbm => 279
  | .vmem => 0
  | .smem => 0
  | _ => 0

abbrev hbmTy0_0 (i : Nat) : BufTy := match i % 128 with
  | 0 => ⟨S2x256x50x50, .f32⟩
  | 1 => ⟨S512x5, .f32⟩
  | 2 => ⟨S512x1, .f32⟩
  | 3 => ⟨S512, .f32⟩
  | 4 => ⟨S512, .i32⟩
  | 5 => ⟨S512x1, .f32⟩
  | 6 => ⟨S512, .f32⟩
  | 7 => ⟨S_, .f32⟩
  | 8 => ⟨S512, .f32⟩
  | 9 => ⟨S512, .f32⟩
  | 10 => ⟨S512x1, .f32⟩
  | 11 => ⟨S512, .f32⟩
  | 12 => ⟨S_, .f32⟩
  | 13 => ⟨S512, .f32⟩
  | 14 => ⟨S512, .f32⟩
  | 15 => ⟨S512x1, .f32⟩
  | 16 => ⟨S512, .f32⟩
  | 17 => ⟨S_, .f32⟩
  | 18 => ⟨S512, .f32⟩
  | 19 => ⟨S512, .f32⟩
  | 20 => ⟨S512x1, .f32⟩
  | 21 => ⟨S512, .f32⟩
  | 22 => ⟨S_, .f32⟩
  | 23 => ⟨S512, .f32⟩
  | 24 => ⟨S512, .f32⟩
  | 25 => ⟨S512, .f32⟩
  | 26 => ⟨S_, .f32⟩
  | 27 => ⟨S512, .f32⟩
  | 28 => ⟨S512, .f32⟩
  | 29 => ⟨S512, .f32⟩
  | 30 => ⟨S_, .f32⟩
  | 31 => ⟨S512, .f32⟩
  | 32 => ⟨S512, .f32⟩
  | 33 => ⟨S_, .f32⟩
  | 34 => ⟨S512, .f32⟩
  | 35 => ⟨S512, .f32⟩
  | 36 => ⟨S_, .f32⟩
  | 37 => ⟨S512, .f32⟩
  | 38 => ⟨S512, .f32⟩
  | 39 => ⟨S14, .f32⟩
  | 40 => ⟨S14, .f32⟩
  | 41 => ⟨S512x1, .f32⟩
  | 42 => ⟨S1x14, .f32⟩
  | 43 => ⟨S_, .f32⟩
  | 44 => ⟨S1x14, .f32⟩
  | 45 => ⟨S1x14, .f32⟩
  | 46 => ⟨S_, .f32⟩
  | 47 => ⟨S1x14, .f32⟩
  | 48 => ⟨S1x14, .f32⟩
  | 49 => ⟨S512x1, .f32⟩
  | 50 => ⟨S512x14, .f32⟩
  | 51 => ⟨S512x14, .f32⟩
  | 52 => ⟨S512x14, .f32⟩
  | 53 => ⟨S512x14, .f32⟩
  | 54 => ⟨S512x14, .f32⟩
  | 55 => ⟨S512x1, .f32⟩
  | 56 => ⟨S1x14, .f32⟩
  | 57 => ⟨S_, .f32⟩
  | 58 => ⟨S1x14, .f32⟩
  | 59 => ⟨S1x14, .f32⟩
  | 60 => ⟨S_, .f32⟩
  | 61 => ⟨S1x14, .f32⟩
  | 62 => ⟨S1x14, .f32⟩
  | 63 => ⟨S512x1, .f32⟩
  | 64 => ⟨S512x14, .f32⟩
  | 65 => ⟨S512x14, .f32⟩
  | 66 => ⟨S512x14, .f32⟩
  | 67 => ⟨S512x14, .f32⟩
  | 68 => ⟨S512x14, .f32⟩
  | 69 => ⟨S512x14x1, .f32⟩
  | 70 => ⟨S512x14x14, .f32⟩
  | 71 => ⟨S512x196, .f32⟩
  | 72 => ⟨S512x1x14, .f32⟩
  | 73 => ⟨S512x14x14, .f32⟩
  | 74 => ⟨S512x196, .f32⟩
  | 75 => ⟨S_, .f32⟩
  | 76 => ⟨S512x196, .f32⟩
  | 77 => ⟨S512x196, .i1⟩
  | 78 => ⟨S_, .f32⟩
  | 79 => ⟨S512x196, .f32⟩
  | 80 => ⟨S512x196, .i1⟩
  | 81 => ⟨S512x196, .i1⟩
  | 82 => ⟨S_, .f32⟩
  | 83 => ⟨S512x196, .f32⟩
  | 84 => ⟨S512x196, .i1⟩
  | 85 => ⟨S512x196, .i1⟩
  | 86 => ⟨S_, .f32⟩
  | 87 => ⟨S512x196, .f32⟩
  | 88 => ⟨S512x196, .i1⟩
  | 89 => ⟨S512x196, .i1⟩
  | 90 => ⟨S_, .f32⟩
  | 91 => ⟨S512x196, .f32⟩
  | 92 => ⟨S512x196, .f32⟩
  | 93 => ⟨S512x196, .f32⟩
  | 94 => ⟨S_, .f32⟩
  | 95 => ⟨S512x196, .f32⟩
  | 96 => ⟨S512x196, .i1⟩
  | 97 => ⟨S_, .f32⟩
  | 98 => ⟨S_, .f32⟩
  | 99 => ⟨S512x196, .f32⟩
  | 100 => ⟨S512x196, .f32⟩
  | 101 => ⟨S_, .f32⟩
  | 102 => ⟨S512x196, .f32⟩
  | 103 => ⟨S512x196, .f32⟩
  | 104 => ⟨S_, .f32⟩
  | 105 => ⟨S_, .f32⟩
  | 106 => ⟨S512x196, .f32⟩
  | 107 => ⟨S512x196, .f32⟩
  | 108 => ⟨S512x196, .f32⟩
  | 109 => ⟨S512x196, .f32⟩
  | 110 => ⟨S_, .f32⟩
  | 111 => ⟨S512x196, .f32⟩
  | 112 => ⟨S512x196, .f32⟩
  | 113 => ⟨S512x196, .i32⟩
  | 114 => ⟨S512x196, .i32⟩
  | 115 => ⟨S_, .f32⟩
  | 116 => ⟨S512x196, .f32⟩
  | 117 => ⟨S512x196, .f32⟩
  | 118 => ⟨S512x196, .f32⟩
  | 119 => ⟨S_, .f32⟩
  | 120 => ⟨S512x196, .f32⟩
  | 121 => ⟨S512x196, .i1⟩
  | 122 => ⟨S_, .f32⟩
  | 123 => ⟨S_, .f32⟩
  | 124 => ⟨S512x196, .f32⟩
  | 125 => ⟨S512x196, .f32⟩
  | 126 => ⟨S_, .f32⟩
  | 127 => ⟨S512x196, .f32⟩
  | _ => ⟨S2x256x50x50, .f32⟩

abbrev hbmTy0_1 (i : Nat) : BufTy := match i % 128 with
  | 0 => ⟨S512x196, .f32⟩
  | 1 => ⟨S_, .f32⟩
  | 2 => ⟨S_, .f32⟩
  | 3 => ⟨S512x196, .f32⟩
  | 4 => ⟨S512x196, .f32⟩
  | 5 => ⟨S512x196, .f32⟩
  | 6 => ⟨S512x196, .f32⟩
  | 7 => ⟨S_, .f32⟩
  | 8 => ⟨S512x196, .f32⟩
  | 9 => ⟨S512x196, .f32⟩
  | 10 => ⟨S512x196, .i32⟩
  | 11 => ⟨S512x196, .i32⟩
  | 12 => ⟨S512x196, .f32⟩
  | 13 => ⟨S512x196, .f32⟩
  | 14 => ⟨S512x196, .f32⟩
  | 15 => ⟨S512x196, .f32⟩
  | 16 => ⟨S512x1, .i32⟩
  | 17 => ⟨S_, .i32⟩
  | 18 => ⟨S512x1, .i32⟩
  | 19 => ⟨S512x1, .i1⟩
  | 20 => ⟨S_, .i32⟩
  | 21 => ⟨S512x1, .i32⟩
  | 22 => ⟨S512x1, .i32⟩
  | 23 => ⟨S512x1, .i32⟩
  | 24 => ⟨S_, .i32⟩
  | 25 => ⟨S512x196, .i32⟩
  | 26 => ⟨S512x196, .i1⟩
  | 27 => ⟨S_, .i32⟩
  | 28 => ⟨S512x196, .i32⟩
  | 29 => ⟨S512x196, .i32⟩
  | 30 => ⟨S512x196, .i32⟩
  | 31 => ⟨S_, .i32⟩
  | 32 => ⟨S512x196, .i32⟩
  | 33 => ⟨S512x196, .i1⟩
  | 34 => ⟨S_, .i32⟩
  | 35 => ⟨S512x196, .i32⟩
  | 36 => ⟨S512x196, .i32⟩
  | 37 => ⟨S512x196, .i32⟩
  | 38 => ⟨S512x196, .i32⟩
  | 39 => ⟨S512x196x1, .i32⟩
  | 40 => ⟨S512x196x1, .i32⟩
  | 41 => ⟨S512x196x1, .i32⟩
  | 42 => ⟨S512x196x3, .i32⟩
  | 43 => ⟨S512x196x256, .f32⟩
  | 44 => ⟨S_, .i32⟩
  | 45 => ⟨S512x1, .i32⟩
  | 46 => ⟨S512x1, .i1⟩
  | 47 => ⟨S_, .i32⟩
  | 48 => ⟨S512x1, .i32⟩
  | 49 => ⟨S512x1, .i32⟩
  | 50 => ⟨S512x1, .i32⟩
  | 51 => ⟨S_, .i32⟩
  | 52 => ⟨S512x196, .i32⟩
  | 53 => ⟨S512x196, .i1⟩
  | 54 => ⟨S_, .i32⟩
  | 55 => ⟨S512x196, .i32⟩
  | 56 => ⟨S512x196, .i32⟩
  | 57 => ⟨S512x196, .i32⟩
  | 58 => ⟨S_, .i32⟩
  | 59 => ⟨S512x196, .i32⟩
  | 60 => ⟨S512x196, .i1⟩
  | 61 => ⟨S_, .i32⟩
  | 62 => ⟨S512x196, .i32⟩
  | 63 => ⟨S512x196, .i32⟩
  | 64 => ⟨S512x196, .i32⟩
  | 65 => ⟨S512x196, .i32⟩
  | 66 => ⟨S512x196x1, .i32⟩
  | 67 => ⟨S512x196x1, .i32⟩
  | 68 => ⟨S512x196x1, .i32⟩
  | 69 => ⟨S512x196x3, .i32⟩
  | 70 => ⟨S512x196x256, .f32⟩
  | 71 => ⟨S_, .i32⟩
  | 72 => ⟨S512x1, .i32⟩
  | 73 => ⟨S512x1, .i1⟩
  | 74 => ⟨S_, .i32⟩
  | 75 => ⟨S512x1, .i32⟩
  | 76 => ⟨S512x1, .i32⟩
  | 77 => ⟨S512x1, .i32⟩
  | 78 => ⟨S_, .i32⟩
  | 79 => ⟨S512x196, .i32⟩
  | 80 => ⟨S512x196, .i1⟩
  | 81 => ⟨S_, .i32⟩
  | 82 => ⟨S512x196, .i32⟩
  | 83 => ⟨S512x196, .i32⟩
  | 84 => ⟨S512x196, .i32⟩
  | 85 => ⟨S_, .i32⟩
  | 86 => ⟨S512x196, .i32⟩
  | 87 => ⟨S512x196, .i1⟩
  | 88 => ⟨S_, .i32⟩
  | 89 => ⟨S512x196, .i32⟩
  | 90 => ⟨S512x196, .i32⟩
  | 91 => ⟨S512x196, .i32⟩
  | 92 => ⟨S512x196, .i32⟩
  | 93 => ⟨S512x196x1, .i32⟩
  | 94 => ⟨S512x196x1, .i32⟩
  | 95 => ⟨S512x196x1, .i32⟩
  | 96 => ⟨S512x196x3, .i32⟩
  | 97 => ⟨S512x196x256, .f32⟩
  | 98 => ⟨S_, .i32⟩
  | 99 => ⟨S512x1, .i32⟩
  | 100 => ⟨S512x1, .i1⟩
  | 101 => ⟨S_, .i32⟩
  | 102 => ⟨S512x1, .i32⟩
  | 103 => ⟨S512x1, .i32⟩
  | 104 => ⟨S512x1, .i32⟩
  | 105 => ⟨S_, .i32⟩
  | 106 => ⟨S512x196, .i32⟩
  | 107 => ⟨S512x196, .i1⟩
  | 108 => ⟨S_, .i32⟩
  | 109 => ⟨S512x196, .i32⟩
  | 110 => ⟨S512x196, .i32⟩
  | 111 => ⟨S512x196, .i32⟩
  | 112 => ⟨S_, .i32⟩
  | 113 => ⟨S512x196, .i32⟩
  | 114 => ⟨S512x196, .i1⟩
  | 115 => ⟨S_, .i32⟩
  | 116 => ⟨S512x196, .i32⟩
  | 117 => ⟨S512x196, .i32⟩
  | 118 => ⟨S512x196, .i32⟩
  | 119 => ⟨S512x196, .i32⟩
  | 120 => ⟨S512x196x1, .i32⟩
  | 121 => ⟨S512x196x1, .i32⟩
  | 122 => ⟨S512x196x1, .i32⟩
  | 123 => ⟨S512x196x3, .i32⟩
  | 124 => ⟨S512x196x256, .f32⟩
  | 125 => ⟨S512x196x1, .f32⟩
  | 126 => ⟨S512x196x256, .f32⟩
  | 127 => ⟨S512x196x256, .f32⟩
  | _ => ⟨S2x256x50x50, .f32⟩

abbrev hbmTy0_2 (i : Nat) : BufTy := match i % 128 with
  | 0 => ⟨S512x196x1, .f32⟩
  | 1 => ⟨S512x196x256, .f32⟩
  | 2 => ⟨S512x196x256, .f32⟩
  | 3 => ⟨S512x196x256, .f32⟩
  | 4 => ⟨S512x196x1, .f32⟩
  | 5 => ⟨S512x196x256, .f32⟩
  | 6 => ⟨S512x196x256, .f32⟩
  | 7 => ⟨S512x196x256, .f32⟩
  | 8 => ⟨S512x196x1, .f32⟩
  | 9 => ⟨S512x196x256, .f32⟩
  | 10 => ⟨S512x196x256, .f32⟩
  | 11 => ⟨S512x196x256, .f32⟩
  | 12 => ⟨S512x196x1, .i1⟩
  | 13 => ⟨S512x196x1, .f32⟩
  | 14 => ⟨S512x196x256, .f32⟩
  | 15 => ⟨S512x196x256, .f32⟩
  | 16 => ⟨S512x7x2x7x2x256, .f32⟩
  | 17 => ⟨S_, .f32⟩
  | 18 => ⟨S512x7x7x256, .f32⟩
  | 19 => ⟨S_, .f32⟩
  | 20 => ⟨S512x7x7x256, .f32⟩
  | 21 => ⟨S512x7x7x256, .f32⟩
  | 22 => ⟨S512x256x7x7, .f32⟩
  | _ => ⟨S2x256x50x50, .f32⟩

abbrev hbmTy (i : Nat) : BufTy := match i / 128 with
  | 0 => hbmTy0_0 i
  | 1 => hbmTy0_1 i
  | 2 => hbmTy0_2 i
  | _ => ⟨S2x256x50x50, .f32⟩

abbrev bufTy : (tb : Table) → Fin (tcTables nBuf tb) → BufTy
  | .hbm, ⟨i, _⟩ => hbmTy i
  | _, _ => ⟨S2x256x50x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_7 : Ref sig .tc := ⟨.hbm, 43, rfl⟩
abbrev main_v33 : Ref sig .tc := ⟨.hbm, 44, rfl⟩
abbrev main_v34 : Ref sig .tc := ⟨.hbm, 45, rfl⟩
abbrev main_cst_8 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_9 : Ref sig .tc := ⟨.hbm, 57, rfl⟩
abbrev main_v45 : Ref sig .tc := ⟨.hbm, 58, rfl⟩
abbrev main_v46 : Ref sig .tc := ⟨.hbm, 59, rfl⟩
abbrev main_cst_10 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_11 : Ref sig .tc := ⟨.hbm, 75, rfl⟩
abbrev main_v61 : Ref sig .tc := ⟨.hbm, 76, rfl⟩
abbrev main_v62 : Ref sig .tc := ⟨.hbm, 77, rfl⟩
abbrev main_cst_12 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_13 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_14 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_15 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_16 : Ref sig .tc := ⟨.hbm, 94, rfl⟩
abbrev main_v75 : Ref sig .tc := ⟨.hbm, 95, rfl⟩
abbrev main_v76 : Ref sig .tc := ⟨.hbm, 96, rfl⟩
abbrev main_cst_17 : Ref sig .tc := ⟨.hbm, 97, rfl⟩
abbrev main_call0_v0 : Ref sig .tc := ⟨.hbm, 98, rfl⟩
abbrev main_call0_v1 : Ref sig .tc := ⟨.hbm, 99, rfl⟩
abbrev main_v77 : Ref sig .tc := ⟨.hbm, 100, rfl⟩
abbrev main_cst_18 : Ref sig .tc := ⟨.hbm, 101, rfl⟩
abbrev main_v78 : Ref sig .tc := ⟨.hbm, 102, rfl⟩
abbrev main_v79 : Ref sig .tc := ⟨.hbm, 103, rfl⟩
abbrev main_cst_19 : Ref sig .tc := ⟨.hbm, 104, rfl⟩
abbrev main_call1_v0 : Ref sig .tc := ⟨.hbm, 105, rfl⟩
abbrev main_call1_v1 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_20 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_21 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_22 : Ref sig .tc := ⟨.hbm, 119, rfl⟩
abbrev main_v90 : Ref sig .tc := ⟨.hbm, 120, rfl⟩
abbrev main_v91 : Ref sig .tc := ⟨.hbm, 121, rfl⟩
abbrev main_cst_23 : Ref sig .tc := ⟨.hbm, 122, rfl⟩
abbrev main_call3_v0 : Ref sig .tc := ⟨.hbm, 123, rfl⟩
abbrev main_call3_v1 : Ref sig .tc := ⟨.hbm, 124, rfl⟩
abbrev main_v92 : Ref sig .tc := ⟨.hbm, 125, rfl⟩
abbrev main_cst_24 : Ref sig .tc := ⟨.hbm, 126, rfl⟩
abbrev main_v93 : Ref sig .tc := ⟨.hbm, 127, rfl⟩
abbrev main_v94 : Ref sig .tc := ⟨.hbm, 128, rfl⟩
abbrev main_cst_25 : Ref sig .tc := ⟨.hbm, 129, rfl⟩
abbrev main_call4_v0 : Ref sig .tc := ⟨.hbm, 130, rfl⟩
abbrev main_call4_v1 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_26 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_c : Ref sig .tc := ⟨.hbm, 145, rfl⟩
abbrev main_v107 : Ref sig .tc := ⟨.hbm, 146, rfl⟩
abbrev main_v108 : Ref sig .tc := ⟨.hbm, 147, rfl⟩
abbrev main_c_27 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_c_28 : Ref sig .tc := ⟨.hbm, 152, rfl⟩
abbrev main_v112 : Ref sig .tc := ⟨.hbm, 153, rfl⟩
abbrev main_v113 : Ref sig .tc := ⟨.hbm, 154, rfl⟩
abbrev main_c_29 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_c_30 : Ref sig .tc := ⟨.hbm, 159, rfl⟩
abbrev main_v117 : Ref sig .tc := ⟨.hbm, 160, rfl⟩
abbrev main_v118 : Ref sig .tc := ⟨.hbm, 161, rfl⟩
abbrev main_c_31 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_c_32 : Ref sig .tc := ⟨.hbm, 172, rfl⟩
abbrev main_v128 : Ref sig .tc := ⟨.hbm, 173, rfl⟩
abbrev main_v129 : Ref sig .tc := ⟨.hbm, 174, rfl⟩
abbrev main_c_33 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_c_34 : Ref sig .tc := ⟨.hbm, 179, rfl⟩
abbrev main_v133 : Ref sig .tc := ⟨.hbm, 180, rfl⟩
abbrev main_v134 : Ref sig .tc := ⟨.hbm, 181, rfl⟩
abbrev main_c_35 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_c_36 : Ref sig .tc := ⟨.hbm, 186, rfl⟩
abbrev main_v138 : Ref sig .tc := ⟨.hbm, 187, rfl⟩
abbrev main_v139 : Ref sig .tc := ⟨.hbm, 188, rfl⟩
abbrev main_c_37 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_c_38 : Ref sig .tc := ⟨.hbm, 199, rfl⟩
abbrev main_v149 : Ref sig .tc := ⟨.hbm, 200, rfl⟩
abbrev main_v150 : Ref sig .tc := ⟨.hbm, 201, rfl⟩
abbrev main_c_39 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_c_40 : Ref sig .tc := ⟨.hbm, 206, rfl⟩
abbrev main_v154 : Ref sig .tc := ⟨.hbm, 207, rfl⟩
abbrev main_v155 : Ref sig .tc := ⟨.hbm, 208, rfl⟩
abbrev main_c_41 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_c_42 : Ref sig .tc := ⟨.hbm, 213, rfl⟩
abbrev main_v159 : Ref sig .tc := ⟨.hbm, 214, rfl⟩
abbrev main_v160 : Ref sig .tc := ⟨.hbm, 215, rfl⟩
abbrev main_c_43 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_c_44 : Ref sig .tc := ⟨.hbm, 226, rfl⟩
abbrev main_v170 : Ref sig .tc := ⟨.hbm, 227, rfl⟩
abbrev main_v171 : Ref sig .tc := ⟨.hbm, 228, rfl⟩
abbrev main_c_45 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_c_46 : Ref sig .tc := ⟨.hbm, 233, rfl⟩
abbrev main_v175 : Ref sig .tc := ⟨.hbm, 234, rfl⟩
abbrev main_v176 : Ref sig .tc := ⟨.hbm, 235, rfl⟩
abbrev main_c_47 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_c_48 : Ref sig .tc := ⟨.hbm, 240, rfl⟩
abbrev main_v180 : Ref sig .tc := ⟨.hbm, 241, rfl⟩
abbrev main_v181 : Ref sig .tc := ⟨.hbm, 242, rfl⟩
abbrev main_c_49 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_v202 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_v208 : Ref sig .tc := ⟨.hbm, 270, rfl⟩
abbrev main_v209 : Ref sig .tc := ⟨.hbm, 271, rfl⟩
abbrev main_v210 : Ref sig .tc := ⟨.hbm, 272, rfl⟩
abbrev main_cst_50 : Ref sig .tc := ⟨.hbm, 273, rfl⟩
abbrev main_v211 : Ref sig .tc := ⟨.hbm, 274, rfl⟩
abbrev main_cst_51 : Ref sig .tc := ⟨.hbm, 275, rfl⟩
abbrev main_v212 : Ref sig .tc := ⟨.hbm, 276, rfl⟩
abbrev main_v213 : Ref sig .tc := ⟨.hbm, 277, rfl⟩
abbrev main_v214 : Ref sig .tc := ⟨.hbm, 278, rfl⟩

abbrev nD : Nat := 1
abbrev τ : Topo := Topo.v7x

variable {F : FTy → Type} [FloatOps F]
-- ==== Proof.KRun.lean ====
/-
  The kernel's run as values: what the scratch buffer holds at every grid point, what the region leaves in its result
  array, and what the host operations after the region make of it.
-/
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384
noncomputable section
open Idealize.ShloMosaic Idealize.ShloMosaic.TcCoe Idealize.SL.Sem
open Idealize.ShloMosaic.Pipeline (Dat)

namespace Cert.KernelIdeal.Val
open Cert.KernelIdeal Cert.KernelIdeal.Gen

variable (m : (ℓ : Loc nD τ sig) → Buf (Elt Ideal) ℓ)

/-- The block each window is at, at every grid point. -/
theorem idx : ∀ t : Fin cfg0.N, win0_0.index t = ![0, 0] ∧ win0_1.index t = ![t.val, 0] ∧ win0_2.index t = ![0, t.val, 0] :=
  (by decide +kernel : ∀ t : Fin grid0.N, _)

/-- The image batch as the kernel is given it. -/
abbrev img (c : Dev nD) : Vec Ideal S2x256x50x50 .f32 := m ((c : Thread nD τ).loc main_arg0)
/-- The rois as the kernel is given them. -/
abbrev roi (c : Dev nD) : Vec Ideal S512x5 .f32 := m ((c : Thread nD τ).loc main_arg1)

/-- The feature table of the scratch buffer: row `50 b + h`, column `256 w + k` holds pixel `(h, w)` of channel `k` of
    image `b`. -/
def ft (A : Vec Ideal S2x256x50x50 .f32) : Vec Ideal S100x12800 .f32 := fun y =>
  A (ix4 ⟨(y 0).val / 50, by have := (y 0).isLt; simp at this; omega⟩ ⟨(y 1).val % 256, by omega⟩
    ⟨(y 0).val % 50, by omega⟩ ⟨(y 1).val / 256, by have := (y 1).isLt; simp at this; omega⟩)

/-- The flattened image batch, entry by entry. -/
theorem v1_at (c : Dev nD) (r : Fin 2500) (k : Fin 512) :
    (V m c main_v1 : Vec Ideal S2500x512 .f32) (ix2 r k)
      = img m c (ix4 ⟨k.val / 256, by omega⟩ ⟨k.val % 256, by omega⟩ ⟨r.val / 50, by omega⟩ ⟨r.val % 50, by omega⟩) := by
  have e : V m c main_v1 = shapeCast S2500x512 (transpose S50x50x2x256 [2, 3, 0, 1] (img m c) transposes_S2x256x50x50_S50x50x2x256_2_3_0_1) shapeCasts_S50x50x2x256_S2500x512 := by
    show StableHlo.after hostOps0 _ _ = _
    after_results
    rfl
  rw [e]
  pointwise

/-- Window 0's block is the whole flattened image batch. -/
theorem blk0 (c : Dev nD) (t : Fin cfg0.N) (y : S2500x512.Idx) :
    (iblk m c 0 t : Vec Ideal S2500x512 .f32) y = (V m c main_v1 : Vec Ideal S2500x512 .f32) y := by
  blk_ext [iblk, idx t]

/-- Window 1's block at point `t` is rois `64 t` to `64 t + 63`. -/
theorem blk1 (c : Dev nD) (t : Fin cfg0.N) (n : Fin 64) (k : Fin 5) (ht : t.val < 8) :
    (iblk m c 1 t : Vec Ideal S64x5 .f32) (ix2 n k) = roi m c (ix2 ⟨64 * t.val + n.val, by omega⟩ k) := by
  have e : V m c main_arg1 = roi m c := V_main_arg1 m c
  rw [← e]
  blk_ext [iblk, idx t]

/-- Every point that stores the feature table stores it whole. -/
theorem scr_first (c : Dev nD) (t : Fin cfg0.N) (h : t.val % 8 = 0) : (outsAt0 m c t.val t.isLt).2 = ft (img m c) := by
  funext y
  rw [outsAt0_A m c t h]
  frame_out
  canon_tiles y h
  · rename_i y
    rw [eq_ix2 y]
    pointwise [k0_pay3]
    refine (blk0 m c t _).trans ((v1_at m c _ _).trans ?_)
    unfold ft
    congr 1
    refine congr (congr (congrArg₂ ix4 ?_ ?_) ?_) ?_ <;> apply Fin.ext <;> simp only [Fin.val_mk] <;> omega
  · rename_i y
    rw [eq_ix2 y]
    pointwise [k0_pay2]
    refine (blk0 m c t _).trans ((v1_at m c _ _).trans ?_)
    unfold ft
    congr 1
    refine congr (congr (congrArg₂ ix4 ?_ ?_) ?_) ?_ <;> apply Fin.ext <;> simp only [Fin.val_mk] <;> omega

/-- What the scratch buffer holds after every grid point: the feature table. -/
theorem scr (c : Dev nD) : ∀ (n : ℕ) (h : n < cfg0.N), (outsAt0 m c n h).2 = ft (img m c)
  | 0, h => scr_first m c ⟨0, h⟩ rfl
  | n + 1, h => by
    by_cases h8 : (n + 1) % 8 = 0
    · exact scr_first m c ⟨n + 1, h⟩ h8
    · rw [outsAt0_B m c ⟨n + 1, h⟩ h8]
      exact scr c n _

/-- What one grid point computes from its block of rois and the feature table. -/
def blkOut (B : Vec Ideal S64x5 .f32) (S : Vec Ideal S100x12800 .bf16) : Vec Ideal S49x64x256 .f32 :=
  k0_pay1
    (k0_pay26 (k0_pay4 B) (k0_pay11 (k0_pay8 B)) (k0_pay12 (k0_pay8 B)) (k0_pay15 (k0_pay6 B) (k0_pay8 B))
      (k0_pay16 (k0_pay6 B) (k0_pay8 B)))
    (k0_pay27 (k0_pay20 (k0_pay7 B)) (k0_pay21 (k0_pay7 B)) (k0_pay23 (k0_pay7 B)) (k0_pay24 (k0_pay7 B))
      (k0_pay25 (k0_pay7 B)))
    S

/-- What the result block holds after each grid point. -/
theorem out_at (c : Dev nD) (t : Fin cfg0.N) : (outsAt0 m c t.val t.isLt).1 = blkOut (iblk m c 1 t) (ft (img m c)) := by
  by_cases h : t.val % 8 = 0
  · have hs := scr_first m c t h
    rw [outsAt0_A m c t h] at hs ⊢
    have hs' := fun y => congrFun hs y
    clear hs
    funext y
    revert hs'
    frame_out
    intro hs'
    rw [View.readCov_eq_canon']
    rw [funext hs']
    have e : (fun j => ft (img m c) ((Rect.unit ![0, 0] ![100, 12800] inb_S100x12800_S100x12800_0_0).idx j)) = ft (img m c) :=
      View.ld_unit_lit (S := S100x12800) (off := ![0, 0]) inb_S100x12800_S100x12800_0_0 (ft (img m c))
        (by intro a; fin_cases a <;> rfl)
    unfold blkOut
    exact congrFun (congrArg (k0_pay1 _ _) e) y
  · have hs := scr m c (t.val - 1) (Nat.lt_of_le_of_lt (Nat.sub_le _ _) t.isLt)
    rw [outsAt0_B m c t h, hs]
    funext y
    frame_out
    simp only [read_unread_whole]
    rfl

/-- The region's result array: each block of 64 rois the block function of those rois. -/
def arr (R : Vec Ideal S512x5 .f32) (S : Vec Ideal S100x12800 .bf16) : Vec Ideal S49x512x256 .f32 := fun y =>
  blkOut (fun z => R (ix2 ⟨64 * ((y 1).val / 64) + (z 0).val, by
      have h := (y 1).isLt; have h' := (z 0).isLt; simp at h h'; omega⟩ ⟨(z 1).val, by have h' := (z 1).isLt; simpa using h'⟩)) S
    (ix3 ⟨(y 0).val, by have h := (y 0).isLt; simpa using h⟩ ⟨(y 1).val % 64, by omega⟩ ⟨(y 2).val, by have h := (y 2).isLt; simpa using h⟩)

/-- The region leaves `arr` of the rois and the feature table in its result array. -/
theorem arrAt_out (c : Dev nD) : (dats m 0 c).arrAt 2 cfg0.N = arr (roi m c) (ft (img m c)) := by
  refine (dats m 0 c).arrAt_eq_of_covers 2 _ (by decide +kernel) fun t hf y => ?_
  blk_simp
  rw [after0_2]
  rw [out_at m c t]
  have ht : t.val < 8 := Nat.lt_of_lt_of_eq t.isLt N_0
  have hy0 : (y 0).val < 49 := (y 0).isLt
  have hy1 : (y 1).val < 64 := (y 1).isLt
  have hy2 : (y 2).val < 256 := (y 2).isLt
  unfold arr
  blk_simp [idx t]
  have eB : (fun z : S64x5.Idx => roi m c (ix2 ⟨64 * ((t.val * 64 + (y 1).val) / 64) + (z 0).val, by
      have h' : (z 0).val < 64 := (z 0).isLt; omega⟩ ⟨(z 1).val, (z 1).isLt⟩)) = iblk m c 1 t := by
    funext z
    refine Eq.trans ?_ ((congrArg (iblk m c 1 t) (eq_ix2 z)).trans (blk1 m c t (z 0) (z 1) ht)).symm
    refine congrArg (roi m c) (congrArg₂ ix2 (Fin.ext ?_) rfl)
    show 64 * ((t.val * 64 + (y 1).val) / 64) + (z 0).val = 64 * t.val + (z 0).val
    omega
  have ey : (y : S49x64x256.Idx) = ix3 ⟨(y 0).val, hy0⟩ ⟨(t.val * 64 + (y 1).val) % 64, by omega⟩ ⟨(y 2).val, hy2⟩ := by
    refine (eq_ix3 y).trans (congr (congrArg₂ ix3 rfl (Fin.ext ?_)) rfl)
    show (y 1).val = (t.val * 64 + (y 1).val) % 64
    omega
  exact (congrArg (blkOut (iblk m c 1 t) (ft (img m c))) ey).trans
    (congrFun (congrArg (fun B => blkOut B (ft (img m c))) eB.symm) _)

/-- The kernel's result: the region's result array, its 49 rows read as 7 by 7, rois and channels in front. -/
theorem tail_out (c : Dev nD) (n : Fin 512) (k : Fin 256) (p q : Fin 7) :
    (Pipeline.afterTail₀ cfgs (dats m) 0 (V0 m) [hostOps1] c main_v4 : Vec Ideal S512x256x7x7 .f32) (ix4 n k p q)
      = arr (roi m c) (ft (img m c)) (ix3 ⟨p.val * 7 + q.val, by omega⟩ n k) := by
  have e : Pipeline.afterTail₀ cfgs (dats m) 0 (V0 m) [hostOps1] c main_v4 = transpose S512x256x7x7 [2, 3, 0, 1] (shapeCast S7x7x512x256 (arr (roi m c) (ft (img m c))) shapeCasts_S49x512x256_S7x7x512x256) transposes_S7x7x512x256_S512x256x7x7_2_3_0_1 := by
    unfold Pipeline.afterTail₀
    show StableHlo.after hostOps1 _ _ = _
    after_results
    have e2 : Pipeline.withArrays (cfgs 0).spec c (V0 m c) (fun w => (dats m 0 c).arrAt w (cfgs 0).N) (Proc.tc.devRef main_v2) = arr (roi m c) (ft (img m c)) :=
      (Pipeline.withArrays_arr (cfgs 0).spec (by decide) c (V0 m c) (fun w => (dats m 0 c).arrAt w (cfgs 0).N) 2).trans (arrAt_out m c)
    rw [e2]
    rfl
  rw [e]
  pointwise

end Cert.KernelIdeal.Val
-- ==== Proof.Coord.lean ====
/-
  One sample coordinate, read as numbers: the pixel below it, the pixel above it, the fraction between them and whether
  the sample lies on the image — each as both programs spell it.
-/
module

public import Idealize.ShloMosaic.PureOps.Ideal
public import Idealize.ShloMosaic.Lib.Pointwise

@[expose] public section

noncomputable section
open Idealize.ShloMosaic

namespace Cert.RoiMath

/-- The coordinate of the last pixel, 49. -/
theorem lit49 : Ideal.ofBits FTy.f32 1111752704#32 = ((49 : ℝ) : EReal) := by
  simp [Ideal.ofBits, Ideal.ieee, -EReal.coe_mul]; norm_num
/-- The image's side, 50. -/
theorem lit50 : Ideal.ofBits FTy.f32 1112014848#32 = ((50 : ℝ) : EReal) := by
  simp [Ideal.ofBits, Ideal.ieee, -EReal.coe_mul]; norm_num
/-- One half. -/
theorem litHalf : Ideal.ofBits FTy.f32 1056964608#32 = ((1 / 2 : ℝ) : EReal) := by
  simp [Ideal.ofBits, Ideal.ieee, -EReal.coe_mul]; norm_num
/-- The number of samples in a bin, 4. -/
theorem lit4 : Ideal.ofBits FTy.f32 1082130432#32 = ((4 : ℝ) : EReal) := by
  simp [Ideal.ofBits, Ideal.ieee, -EReal.coe_mul]; norm_num

/-- The floor of the sample coordinate, cut at zero below. -/
def fl (s : EReal) : EReal := Ideal.liftRound Int.floor (max s 0)

/-- The sample lies at or beyond the last pixel. -/
def Edge (s : EReal) : Prop := Ideal.ofBits FTy.f32 1111752704#32 ≤ fl s

open Classical in
/-- The pixel below the sample. -/
def lo (s : EReal) : ℕ := if Edge s then 49 else ⌊(max s 0).toReal⌋₊
open Classical in
/-- The pixel above the sample. -/
def up (s : EReal) : ℕ := if Edge s then 49 else ⌊(max s 0).toReal⌋₊ + 1
open Classical in
/-- The fraction of the way from the pixel below to the pixel above. -/
def fr (s : EReal) : ℝ := if Edge s then 0 else (max s 0).toReal - (⌊(max s 0).toReal⌋₊ : ℝ)
open Classical in
/-- One when the sample lies on the image (with a border of one pixel before it), zero otherwise. -/
def ok (s : EReal) : ℝ :=
  if Ideal.ofBits FTy.f32 3212836864#32 ≤ s ∧ s ≤ Ideal.ofBits FTy.f32 1112014848#32 then 1 else 0

/-- Away from the far edge the cut coordinate is a real number with its floor below 49. -/
theorem inner (s : EReal) (h : ¬ Edge s) : ∃ r : ℝ, 0 ≤ r ∧ max s 0 = (r : EReal) ∧ fl s = ((⌊r⌋₊ : ℝ) : EReal) ∧ ⌊r⌋₊ < 49 := by
  unfold Edge at h
  rw [lit49] at h
  have hp : (0 : EReal) ≤ max s 0 := le_max_right _ _
  unfold fl at h ⊢
  generalize max s 0 = c at h hp ⊢
  induction c using EReal.rec with
  | bot => exact absurd hp (by simp)
  | top => exact absurd le_top h
  | coe r =>
    have hr : 0 ≤ r := EReal.coe_nonneg.1 hp
    have hf : ((⌊r⌋ : ℤ) : ℝ) = (⌊r⌋₊ : ℝ) := by
      rw [← natCast_floor_eq_intCast_floor hr]
    rw [Ideal.liftRound_coe, hf] at h ⊢
    refine ⟨r, hr, rfl, rfl, ?_⟩
    rw [EReal.coe_le_coe_iff, not_le] at h
    exact_mod_cast h

/-- The pixel below lies on the image. -/
theorem lo_lt (s : EReal) : lo s < 50 := by
  unfold lo
  split
  · omega
  · rename_i h
    obtain ⟨r, h0, h1, h2, h3⟩ := inner s h
    rw [h1, EReal.toReal_coe]; omega

/-- The pixel above lies on the image. -/
theorem up_lt (s : EReal) : up s < 50 := by
  unfold up
  split
  · omega
  · rename_i h
    obtain ⟨r, h0, h1, h2, h3⟩ := inner s h
    rw [h1, EReal.toReal_coe]; omega

/-- The fraction is not negative. -/
theorem fr_nonneg (s : EReal) : 0 ≤ fr s := by
  unfold fr
  split
  · exact le_rfl
  · rename_i h
    obtain ⟨r, h0, h1, h2, h3⟩ := inner s h
    rw [h1, EReal.toReal_coe]
    linarith [Nat.floor_le h0]

/-- The fraction is at most one. -/
theorem fr_le (s : EReal) : 0 ≤ 1 - fr s := by
  unfold fr
  split
  · norm_num
  · rename_i h
    obtain ⟨r, h0, h1, h2, h3⟩ := inner s h
    rw [h1, EReal.toReal_coe]
    linarith [Nat.lt_floor_add_one r]

/-- The validity is not negative. -/
theorem ok_nonneg (s : EReal) : 0 ≤ ok s := by
  unfold ok; split <;> norm_num

/-- The pixel below, as both programs select it. -/
theorem lo_eq (s : EReal) [Decidable (Ideal.ofBits FTy.f32 1111752704#32 ≤ Ideal.liftRound Int.floor (max s 0))] :
    (if Ideal.ofBits FTy.f32 1111752704#32 ≤ Ideal.liftRound Int.floor (max s 0) then Ideal.ofBits FTy.f32 1111752704#32
      else Ideal.liftRound Int.floor (max s 0)) = ((lo s : ℝ) : EReal) := by
  by_cases h : Edge s
  · have h' : Ideal.ofBits FTy.f32 1111752704#32 ≤ Ideal.liftRound Int.floor (max s 0) := h
    rw [if_pos h', lit49]; unfold lo; rw [if_pos h]; norm_num
  · have h' : ¬ Ideal.ofBits FTy.f32 1111752704#32 ≤ Ideal.liftRound Int.floor (max s 0) := h
    rw [if_neg h']; unfold lo; rw [if_neg h]
    obtain ⟨r, h0, h1, h2, h3⟩ := inner s h
    refine h2.trans ?_
    rw [h1, EReal.toReal_coe]

/-- The pixel above, as both programs select it from the pixel below, where the edge's own value is the pixel below. -/
theorem up_eq (s : EReal) [Decidable (Ideal.ofBits FTy.f32 1111752704#32 ≤ Ideal.liftRound Int.floor (max s 0))] :
    (if Ideal.ofBits FTy.f32 1111752704#32 ≤ Ideal.liftRound Int.floor (max s 0) then ((lo s : ℝ) : EReal)
      else ((lo s : ℝ) : EReal) + 1) = ((up s : ℝ) : EReal) := by
  by_cases h : Edge s
  · have h' : Ideal.ofBits FTy.f32 1111752704#32 ≤ Ideal.liftRound Int.floor (max s 0) := h
    rw [if_pos h']; unfold lo up; rw [if_pos h, if_pos h]
  · have h' : ¬ Ideal.ofBits FTy.f32 1111752704#32 ≤ Ideal.liftRound Int.floor (max s 0) := h
    rw [if_neg h']; unfold lo up; rw [if_neg h, if_neg h]
    push_cast
    rfl

/-- The pixel above, as both programs select it, where the edge's own value is the last pixel. -/
theorem up_eq' (s : EReal) [Decidable (Ideal.ofBits FTy.f32 1111752704#32 ≤ Ideal.liftRound Int.floor (max s 0))] :
    (if Ideal.ofBits FTy.f32 1111752704#32 ≤ Ideal.liftRound Int.floor (max s 0) then Ideal.ofBits FTy.f32 1111752704#32
      else ((lo s : ℝ) : EReal) + 1) = ((up s : ℝ) : EReal) := by
  refine Eq.trans ?_ (up_eq s)
  by_cases h : Edge s
  · have h' : Ideal.ofBits FTy.f32 1111752704#32 ≤ Ideal.liftRound Int.floor (max s 0) := h
    rw [if_pos h', if_pos h', lit49]; unfold lo; rw [if_pos h]; norm_num
  · have h' : ¬ Ideal.ofBits FTy.f32 1111752704#32 ≤ Ideal.liftRound Int.floor (max s 0) := h
    rw [if_neg h', if_neg h']

/-- The fraction, zero at the far edge, as the kernel selects it. -/
theorem fr_eq (s : EReal) [Decidable (Ideal.ofBits FTy.f32 1111752704#32 ≤ Ideal.liftRound Int.floor (max s 0))] :
    (if Ideal.ofBits FTy.f32 1111752704#32 ≤ Ideal.liftRound Int.floor (max s 0) then (0 : EReal)
      else max s 0 - ((lo s : ℝ) : EReal)) = ((fr s : ℝ) : EReal) := by
  by_cases h : Edge s
  · have h' : Ideal.ofBits FTy.f32 1111752704#32 ≤ Ideal.liftRound Int.floor (max s 0) := h
    rw [if_pos h']; unfold fr; rw [if_pos h]; rfl
  · have h' : ¬ Ideal.ofBits FTy.f32 1111752704#32 ≤ Ideal.liftRound Int.floor (max s 0) := h
    rw [if_neg h']; unfold fr lo; rw [if_neg h, if_neg h]
    obtain ⟨r, h0, h1, h2, h3⟩ := inner s h
    rw [h1, EReal.toReal_coe, ← EReal.coe_sub]

/-- The fraction, as the reference computes it: the coordinate, moved onto the last pixel at the far edge, less the pixel
    below. -/
theorem fr_eq' (s : EReal) [Decidable (Ideal.ofBits FTy.f32 1111752704#32 ≤ Ideal.liftRound Int.floor (max s 0))] :
    ((if Ideal.ofBits FTy.f32 1111752704#32 ≤ Ideal.liftRound Int.floor (max s 0) then ((lo s : ℝ) : EReal)
      else max s 0) - ((lo s : ℝ) : EReal)) = ((fr s : ℝ) : EReal) := by
  refine Eq.trans ?_ (fr_eq s)
  by_cases h : Edge s
  · have h' : Ideal.ofBits FTy.f32 1111752704#32 ≤ Ideal.liftRound Int.floor (max s 0) := h
    rw [if_pos h', if_pos h', ← EReal.coe_sub, sub_self]; rfl
  · have h' : ¬ Ideal.ofBits FTy.f32 1111752704#32 ≤ Ideal.liftRound Int.floor (max s 0) := h
    rw [if_neg h', if_neg h']

/-- One less the fraction. -/
theorem one_sub_fr (s : EReal) : (1 : EReal) - ((fr s : ℝ) : EReal) = ((1 - fr s : ℝ) : EReal) := by
  rw [EReal.coe_sub, EReal.coe_one]

/-- The validity of one coordinate, as the kernel computes it. -/
theorem ok_kernel (s : EReal) [Decidable (Ideal.ofBits FTy.f32 3212836864#32 ≤ s)]
    [Decidable (s ≤ Ideal.ofBits FTy.f32 1112014848#32)] :
    (FloatOps.sitofp FTy.f32 (BitVec.setWidth 32 (IntOp.andi
      (BitVec.ofBool (decide (Ideal.ofBits FTy.f32 3212836864#32 ≤ s)))
      (BitVec.ofBool (decide (s ≤ Ideal.ofBits FTy.f32 1112014848#32))))) : Ideal FTy.f32) = ((ok s : ℝ) : EReal) := by
  have e : ∀ p q : Bool, ((BitVec.setWidth 32 (IntOp.andi (BitVec.ofBool p) (BitVec.ofBool q))).toInt : ℤ)
      = if p = true ∧ q = true then 1 else 0 := by decide
  show ((((BitVec.setWidth 32 (IntOp.andi
      (BitVec.ofBool (decide (Ideal.ofBits FTy.f32 3212836864#32 ≤ s)))
      (BitVec.ofBool (decide (s ≤ Ideal.ofBits FTy.f32 1112014848#32))))).toInt : ℤ) : ℝ) : EReal) = _
  rw [e]
  unfold ok
  simp only [decide_eq_true_eq]
  congr 1
  split <;> norm_num

/-- The validity of a sample, as the reference computes it: that of its two coordinates at once. -/
theorem ok_ref (s t : EReal) [Decidable (Ideal.ofBits FTy.f32 3212836864#32 ≤ s)]
    [Decidable (s ≤ Ideal.ofBits FTy.f32 1112014848#32)] [Decidable (Ideal.ofBits FTy.f32 3212836864#32 ≤ t)]
    [Decidable (t ≤ Ideal.ofBits FTy.f32 1112014848#32)] :
    (FloatOps.uitofp FTy.f32 (IntOp.andi (IntOp.andi (IntOp.andi
      (BitVec.ofBool (decide (Ideal.ofBits FTy.f32 3212836864#32 ≤ s)))
      (BitVec.ofBool (decide (s ≤ Ideal.ofBits FTy.f32 1112014848#32))))
      (BitVec.ofBool (decide (Ideal.ofBits FTy.f32 3212836864#32 ≤ t))))
      (BitVec.ofBool (decide (t ≤ Ideal.ofBits FTy.f32 1112014848#32)))) : Ideal FTy.f32)
      = ((ok s * ok t : ℝ) : EReal) := by
  have e : ∀ p q p' q' : Bool, ((IntOp.andi (IntOp.andi (IntOp.andi (BitVec.ofBool p) (BitVec.ofBool q))
      (BitVec.ofBool p')) (BitVec.ofBool q')).toNat : ℕ)
      = (if p = true ∧ q = true then 1 else 0) * (if p' = true ∧ q' = true then 1 else 0) := by decide
  show ((((IntOp.andi (IntOp.andi (IntOp.andi
      (BitVec.ofBool (decide (Ideal.ofBits FTy.f32 3212836864#32 ≤ s)))
      (BitVec.ofBool (decide (s ≤ Ideal.ofBits FTy.f32 1112014848#32))))
      (BitVec.ofBool (decide (Ideal.ofBits FTy.f32 3212836864#32 ≤ t))))
      (BitVec.ofBool (decide (t ≤ Ideal.ofBits FTy.f32 1112014848#32)))).toNat : ℕ) : ℝ) : EReal) = _
  rw [e]
  unfold ok
  simp only [decide_eq_true_eq]
  congr 1
  push_cast
  split <;> split <;> norm_num

/-- A small natural number converted to a word is that number's word. -/
theorem fptosi_nat (n : ℕ) (h : n < 1000) :
    FloatOps.fptosi (F := Ideal) (φ := FTy.f32) 32 ((n : ℝ) : EReal) = BitVec.ofNat 32 n := by
  show BitVec.ofInt 32 (Ideal.toIntClamped _ _ ((n : ℝ) : EReal)) = _
  rw [Ideal.toIntClamped_coe, if_pos (Nat.cast_nonneg n), Int.floor_natCast, min_eq_right (by norm_num; omega),
    max_eq_right (by norm_num)]
  simp

/-- Comparing two small words for equality is comparing the numbers. -/
theorem select_eq_nat (r n : ℕ) (hr : r < 1000) (hn : n < 1000) (a : EReal) :
    (Scalar.select (IntOp.cmpi .eq (BitVec.ofNat 32 r) (BitVec.ofNat 32 n)) a 0 : EReal) = if r = n then a else 0 := by
  have : (BitVec.ofNat 32 r = BitVec.ofNat 32 n) ↔ r = n := by
    constructor
    · intro h
      have := congrArg BitVec.toNat h
      simp only [BitVec.toNat_ofNat] at this
      omega
    · rintro rfl; rfl
  by_cases h : r = n
  · subst h
    simp [Scalar.select, IntOp.cmpi]
  · rw [if_neg h]
    have hb : (BitVec.ofNat 32 r == BitVec.ofNat 32 n) = false := beq_eq_false_iff_ne.2 fun e => h (this.1 e)
    simp [Scalar.select, IntOp.cmpi, hb]

end Cert.RoiMath
-- ==== Proof.Math.lean ====
/-
  The arithmetic the two programs meet in: a weighted row of one-hot sums read as the few entries it picks, and the
  average of two by two bilinear samples as a product of two such rows. All in the extended reals, with nonnegative real
  weights and arbitrary entries.
-/
module

public import Idealize.ShloMosaic.PureOps.Ideal

@[expose] public section

noncomputable section

namespace Cert.RoiMath

/-- A nonnegative real weight distributes over a sum of any two extended reals. -/
theorem cd (a : ℝ) (h : 0 ≤ a) (x y : EReal) : (a : EReal) * (x + y) = (a : EReal) * x + (a : EReal) * y :=
  EReal.left_distrib_of_nonneg_of_ne_top (EReal.coe_nonneg.2 h) (EReal.coe_ne_top a) x y

/-- Two real weights applied one after the other are their product applied once. -/
theorem cm (a b : ℝ) (x : EReal) : (a : EReal) * ((b : EReal) * x) = ((a * b : ℝ) : EReal) * x := by
  rw [← mul_assoc, EReal.coe_mul]

/-- A row whose only entry is the weight `a` at `p`, halved and summed against `g`. -/
theorem one_hot {n : ℕ} (p : Fin n) (a : ℝ) (g : Fin n → EReal) :
    ∑ r : Fin n, ((if r = p then (a : EReal) else 0) * ((1 / 2 : ℝ) : EReal)) * g r = ((a / 2 : ℝ) : EReal) * g p := by
  rw [Finset.sum_eq_single p]
  · rw [if_pos rfl, ← EReal.coe_mul]; congr 2; ring
  · intro b _ hb; rw [if_neg hb, zero_mul, zero_mul]
  · intro h; exact absurd (Finset.mem_univ p) h

/-- A row that is half a sum of four one-hot rows, summed against `g`, picks `g` at the four places. -/
theorem row_sum {n : ℕ} (p p' : Fin 2 → Fin n) (a a' : Fin 2 → ℝ) (ha : ∀ i, 0 ≤ a i) (ha' : ∀ i, 0 ≤ a' i)
    (g : Fin n → EReal) :
    ∑ r : Fin n, ((∑ i : Fin 2, ((if r = p i then (a i : EReal) else 0) + (if r = p' i then (a' i : EReal) else 0)))
        * ((1 / 2 : ℝ) : EReal)) * g r
      = ∑ i : Fin 2, (((a i / 2 : ℝ) : EReal) * g (p i) + ((a' i / 2 : ℝ) : EReal) * g (p' i)) := by
  have h0 : ∀ (i : Fin 2) (r : Fin n), 0 ≤ (if r = p i then (a i : EReal) else 0) := fun i r => by
    split
    · exact EReal.coe_nonneg.2 (ha i)
    · exact le_rfl
  have h1 : ∀ (i : Fin 2) (r : Fin n), 0 ≤ (if r = p' i then (a' i : EReal) else 0) := fun i r => by
    split
    · exact EReal.coe_nonneg.2 (ha' i)
    · exact le_rfl
  have hh : (0 : EReal) ≤ ((1 / 2 : ℝ) : EReal) := EReal.coe_nonneg.2 (by norm_num)
  have e : ∀ r : Fin n, ((∑ i : Fin 2, ((if r = p i then (a i : EReal) else 0) + (if r = p' i then (a' i : EReal) else 0)))
        * ((1 / 2 : ℝ) : EReal)) * g r
      = ∑ i : Fin 2, (((if r = p i then (a i : EReal) else 0) * ((1 / 2 : ℝ) : EReal)) * g r
          + ((if r = p' i then (a' i : EReal) else 0) * ((1 / 2 : ℝ) : EReal)) * g r) := fun r => by
    rw [Fin.sum_univ_two, Fin.sum_univ_two,
      EReal.right_distrib_of_nonneg (add_nonneg (h0 0 r) (h1 0 r)) (add_nonneg (h0 1 r) (h1 1 r)),
      EReal.right_distrib_of_nonneg (h0 0 r) (h1 0 r), EReal.right_distrib_of_nonneg (h0 1 r) (h1 1 r),
      EReal.right_distrib_of_nonneg (add_nonneg (mul_nonneg (h0 0 r) hh) (mul_nonneg (h1 0 r) hh))
        (add_nonneg (mul_nonneg (h0 1 r) hh) (mul_nonneg (h1 1 r) hh)),
      EReal.right_distrib_of_nonneg (mul_nonneg (h0 0 r) hh) (mul_nonneg (h1 0 r) hh),
      EReal.right_distrib_of_nonneg (mul_nonneg (h0 1 r) hh) (mul_nonneg (h1 1 r) hh)]
  rw [Finset.sum_congr rfl fun r _ => e r, Finset.sum_comm]
  refine Finset.sum_congr rfl fun i _ => ?_
  rw [Finset.sum_add_distrib, one_hot, one_hot]

/-- One bilinear sample: the separable form (rows first, then columns, each weight carrying its own validity and a half)
    is the four-corner form, masked and quartered. -/
theorem pair (hy ly vy hx lx vx : ℝ) (h1 : 0 ≤ hy) (h2 : 0 ≤ ly) (h3 : 0 ≤ vy) (h4 : 0 ≤ hx) (h5 : 0 ≤ lx)
    (h6 : 0 ≤ vx) (v1 v2 v3 v4 : EReal) :
    (((hx * vx / 2 : ℝ) : EReal) * (((hy * vy / 2 : ℝ) : EReal) * v1 + ((ly * vy / 2 : ℝ) : EReal) * v3)
      + ((lx * vx / 2 : ℝ) : EReal) * (((hy * vy / 2 : ℝ) : EReal) * v2 + ((ly * vy / 2 : ℝ) : EReal) * v4))
    = ((1 / 4 : ℝ) : EReal) * (((vy * vx : ℝ) : EReal) *
        ((hy : EReal) * (hx : EReal) * v1 + (hy : EReal) * (lx : EReal) * v2 + (ly : EReal) * (hx : EReal) * v3
          + (ly : EReal) * (lx : EReal) * v4)) := by
  rw [cd _ (by positivity), cd _ (by positivity)]
  simp only [← EReal.coe_mul, cm]
  rw [cd _ (by positivity), cd _ (by positivity), cd _ (by positivity)]
  simp only [cm]
  rw [show hx * vx / 2 * (hy * vy / 2) = 1 / 4 * (vy * vx) * (hy * hx) by ring,
    show hx * vx / 2 * (ly * vy / 2) = 1 / 4 * (vy * vx) * (ly * hx) by ring,
    show lx * vx / 2 * (hy * vy / 2) = 1 / 4 * (vy * vx) * (hy * lx) by ring,
    show lx * vx / 2 * (ly * vy / 2) = 1 / 4 * (vy * vx) * (ly * lx) by ring]
  abel

/-- The average over two by two samples: the product of the two picked rows is the quarter of the sum of the masked
    four-corner samples. -/
theorem quad (hy ly vy hx lx vx : Fin 2 → ℝ) (h1 : ∀ i, 0 ≤ hy i) (h2 : ∀ i, 0 ≤ ly i) (h3 : ∀ i, 0 ≤ vy i)
    (h4 : ∀ i, 0 ≤ hx i) (h5 : ∀ i, 0 ≤ lx i) (h6 : ∀ i, 0 ≤ vx i) {n w : ℕ} (p p' : Fin 2 → Fin n) (q q' : Fin 2 → Fin w)
    (f : Fin n → Fin w → EReal) :
    ∑ x : Fin w, ((∑ i : Fin 2, ((if x = q i then ((hx i * vx i : ℝ) : EReal) else 0)
          + (if x = q' i then ((lx i * vx i : ℝ) : EReal) else 0))) * ((1 / 2 : ℝ) : EReal))
        * ∑ r : Fin n, ((∑ i : Fin 2, ((if r = p i then ((hy i * vy i : ℝ) : EReal) else 0)
          + (if r = p' i then ((ly i * vy i : ℝ) : EReal) else 0))) * ((1 / 2 : ℝ) : EReal)) * f r x
    = ((1 / 4 : ℝ) : EReal) * ∑ i : Fin 2, ∑ j : Fin 2, ((vy i * vx j : ℝ) : EReal) *
        ((hy i : EReal) * (hx j : EReal) * f (p i) (q j) + (hy i : EReal) * (lx j : EReal) * f (p i) (q' j)
          + (ly i : EReal) * (hx j : EReal) * f (p' i) (q j) + (ly i : EReal) * (lx j : EReal) * f (p' i) (q' j)) := by
  have hq : (0 : ℝ) ≤ 1 / 4 := by norm_num
  rw [row_sum q q' (fun i => hx i * vx i) (fun i => lx i * vx i) (fun i => mul_nonneg (h4 i) (h6 i))
    (fun i => mul_nonneg (h5 i) (h6 i))]
  simp only [fun x => row_sum p p' (fun i => hy i * vy i) (fun i => ly i * vy i) (fun i => mul_nonneg (h1 i) (h3 i))
    (fun i => mul_nonneg (h2 i) (h3 i)) (fun r => f r x)]
  have e := fun i j => pair (hy i) (ly i) (vy i) (hx j) (lx j) (vx j) (h1 i) (h2 i) (h3 i) (h4 j) (h5 j) (h6 j)
    (f (p i) (q j)) (f (p i) (q' j)) (f (p' i) (q j)) (f (p' i) (q' j))
  simp only [Fin.sum_univ_two]
  rw [cd _ hq, cd _ hq, cd _ hq, ← e, ← e, ← e, ← e]
  have k : ∀ j, 0 ≤ hx j * vx j / 2 := fun j => by have := h4 j; have := h6 j; positivity
  have k' : ∀ j, 0 ≤ lx j * vx j / 2 := fun j => by have := h5 j; have := h6 j; positivity
  have s : ∀ (j : Fin 2) (X Y : EReal), ((hx j * vx j / 2 : ℝ) : EReal) * (X + Y)
      = ((hx j * vx j / 2 : ℝ) : EReal) * X + ((hx j * vx j / 2 : ℝ) : EReal) * Y := fun j => cd _ (k j)
  have s' : ∀ (j : Fin 2) (X Y : EReal), ((lx j * vx j / 2 : ℝ) : EReal) * (X + Y)
      = ((lx j * vx j / 2 : ℝ) : EReal) * X + ((lx j * vx j / 2 : ℝ) : EReal) * Y := fun j => cd _ (k' j)
  simp only [s, s']
  abel

end Cert.RoiMath
-- ==== Proof.KVal.lean ====
/-
  What one grid point of the kernel computes, entry by entry, in terms of the pixels, fractions and validities of the
  roi's sample coordinates.
-/
module

public import proofs.«01_k».proof.Proof.KRun
public import proofs.«01_k».proof.Proof.Coord
public import proofs.«01_k».proof.Proof.Math

@[expose] public section

set_option maxRecDepth 16384
noncomputable section
open Idealize.ShloMosaic Idealize.SL.Sem

namespace Cert.RoiMath

/-- Sample `j` of fourteen along an axis on which the roi runs from `a` to `b`. -/
def smp (a b : EReal) (j : ℕ) : EReal :=
  a * Ideal.ofBits FTy.f32 1031798784#32 +
    Ideal.div (FloatOps.sitofp (F := Ideal) FTy.f32 (BitVec.ofNat 32 j) + Ideal.ofBits FTy.f32 1056964608#32)
        (Ideal.ofBits FTy.f32 1073741824#32) *
      Ideal.div (max (b * Ideal.ofBits FTy.f32 1031798784#32 - a * Ideal.ofBits FTy.f32 1031798784#32) 1)
        (Ideal.ofBits FTy.f32 1088421888#32)

end Cert.RoiMath

namespace Cert.KernelIdeal.Val
open Cert.KernelIdeal Cert.KernelIdeal.Gen Cert.RoiMath

section
variable (B : Vec Ideal S64x5 .f32) (n : Fin 64) (j : Fin 14)

/-- The vertical sample coordinates. -/
theorem pay6_at : k0_pay6 B (ix2 n j) = smp (B (ix2 n 2)) (B (ix2 n 4)) j.val := by
  pointwise [k0_pay6, k0_pay5]
  rfl

/-- The horizontal sample coordinates. -/
theorem pay7_at : k0_pay7 B (ix2 n j) = smp (B (ix2 n 1)) (B (ix2 n 3)) j.val := by
  pointwise [k0_pay7, k0_pay5]
  rfl

/-- The vertical sample coordinates, cut at zero below. -/
theorem pay8_at : k0_pay8 B (ix2 n j) = max (k0_pay6 B (ix2 n j)) 0 := by
  pointwise [k0_pay8]

/-- The row below each vertical sample. -/
theorem pay11_at : k0_pay11 (k0_pay8 B) (ix2 n j) = ((lo (k0_pay6 B (ix2 n j)) : ℝ) : EReal) := by
  pointwise [k0_pay11, k0_pay10, k0_pay9]
  rw [pay8_at]
  exact lo_eq _

/-- The row above each vertical sample. -/
theorem pay12_at : k0_pay12 (k0_pay8 B) (ix2 n j) = ((up (k0_pay6 B (ix2 n j)) : ℝ) : EReal) := by
  pointwise [k0_pay12, k0_pay10, k0_pay9]
  rw [pay11_at, pay8_at]
  exact up_eq _

/-- The vertical fraction. -/
theorem pay13_at : k0_pay13 (k0_pay8 B) (ix2 n j) = ((fr (k0_pay6 B (ix2 n j)) : ℝ) : EReal) := by
  pointwise [k0_pay13, k0_pay10, k0_pay9]
  rw [pay11_at, pay8_at]
  exact fr_eq _

/-- The validity of each vertical sample. -/
theorem pay14_at : k0_pay14 (k0_pay6 B) (ix2 n j) = ((ok (k0_pay6 B (ix2 n j)) : ℝ) : EReal) := by
  pointwise [k0_pay14]
  exact ok_kernel _

/-- The weight of the row above. -/
theorem pay15_at : k0_pay15 (k0_pay6 B) (k0_pay8 B) (ix2 n j)
    = ((fr (k0_pay6 B (ix2 n j)) * ok (k0_pay6 B (ix2 n j)) : ℝ) : EReal) := by
  pointwise [k0_pay15]
  rw [pay13_at, pay14_at, EReal.coe_mul]

/-- The weight of the row below. -/
theorem pay16_at : k0_pay16 (k0_pay6 B) (k0_pay8 B) (ix2 n j)
    = (((1 - fr (k0_pay6 B (ix2 n j))) * ok (k0_pay6 B (ix2 n j)) : ℝ) : EReal) := by
  pointwise [k0_pay16]
  rw [pay13_at, pay14_at, EReal.coe_mul, one_sub_fr]

/-- The column left of each horizontal sample. -/
theorem pay20_at : k0_pay20 (k0_pay7 B) (ix2 n j) = ((lo (k0_pay7 B (ix2 n j)) : ℝ) : EReal) := by
  pointwise [k0_pay20, k0_pay19, k0_pay18, k0_pay17]
  exact lo_eq _

/-- The column right of each horizontal sample. -/
theorem pay21_at : k0_pay21 (k0_pay7 B) (ix2 n j) = ((up (k0_pay7 B (ix2 n j)) : ℝ) : EReal) := by
  pointwise [k0_pay21, k0_pay19, k0_pay18, k0_pay17]
  rw [pay20_at]
  exact up_eq _

/-- The horizontal fraction. -/
theorem pay22_at : k0_pay22 (k0_pay7 B) (ix2 n j) = ((fr (k0_pay7 B (ix2 n j)) : ℝ) : EReal) := by
  pointwise [k0_pay22, k0_pay19, k0_pay18, k0_pay17]
  rw [pay20_at]
  exact fr_eq _

/-- One less the horizontal fraction. -/
theorem pay23_at : k0_pay23 (k0_pay7 B) (ix2 n j) = ((1 - fr (k0_pay7 B (ix2 n j)) : ℝ) : EReal) := by
  pointwise [k0_pay23]
  rw [pay22_at, one_sub_fr]

/-- The validity of each horizontal sample. -/
theorem pay24_at : k0_pay24 (k0_pay7 B) (ix2 n j) = ((ok (k0_pay7 B (ix2 n j)) : ℝ) : EReal) := by
  pointwise [k0_pay24]
  exact ok_kernel _

/-- The weight of the column on the right. -/
theorem pay25_at : k0_pay25 (k0_pay7 B) (ix2 n j)
    = ((fr (k0_pay7 B (ix2 n j)) * ok (k0_pay7 B (ix2 n j)) : ℝ) : EReal) := by
  pointwise [k0_pay25]
  rw [pay22_at, pay24_at, EReal.coe_mul]

end

/-- The row of vertical weights of bin `h`: four one-hot rows over the 100 rows of the feature table, halved. -/
theorem rowY (B : Vec Ideal S64x5 .f32) (n : Fin 64) (h : Fin 7) (r : Fin 100) (b : ℕ) (hb : b < 2)
    (h0 : B (ix2 n 0) = ((b : ℝ) : EReal)) (s : Fin 2 → EReal)
    (hs : ∀ i : Fin 2, s i = smp (B (ix2 n 2)) (B (ix2 n 4)) (h.val * 2 + i.val)) :
    k0_pay26 (k0_pay4 B) (k0_pay11 (k0_pay8 B)) (k0_pay12 (k0_pay8 B)) (k0_pay15 (k0_pay6 B) (k0_pay8 B))
        (k0_pay16 (k0_pay6 B) (k0_pay8 B)) (ix3 n h r)
      = (∑ i : Fin 2, ((if r = ⟨lo (s i) + 50 * b, by have := lo_lt (s i); omega⟩ then (((1 - fr (s i)) * ok (s i) : ℝ) : EReal) else 0)
          + (if r = ⟨up (s i) + 50 * b, by have := up_lt (s i); omega⟩ then ((fr (s i) * ok (s i) : ℝ) : EReal) else 0)))
        * ((1 / 2 : ℝ) : EReal) := by
  pointwise [k0_pay26]
  simp only [pay11_at, pay12_at, pay15_at, pay16_at, pay6_at]
  have e4 : k0_pay4 B (ix2 n 0) = ((b : ℝ) : EReal) := by
    pointwise [k0_pay4]
    exact h0
  rw [e4, litHalf, lit50]
  refine congrArg (· * ((1 / 2 : ℝ) : EReal)) (Finset.sum_congr rfl fun i _ => ?_)
  simp only [← hs i]
  have c : ∀ q : ℕ, ((q : ℝ) : EReal) + ((b : ℝ) : EReal) * ((50 : ℝ) : EReal) = (((q + 50 * b : ℕ) : ℝ) : EReal) := fun q => by
    rw [← EReal.coe_mul, ← EReal.coe_add]; exact congrArg _ (by push_cast; ring)
  have hl := lo_lt (s i)
  have hu := up_lt (s i)
  rw [c, c, fptosi_nat _ (by omega), fptosi_nat _ (by omega), select_eq_nat _ _ (by omega) (by omega),
    select_eq_nat _ _ (by omega) (by omega)]
  simp only [Fin.ext_iff]

/-- The row of horizontal weights of bin `w`: four one-hot rows over the 50 columns, halved. -/
theorem rowX (B : Vec Ideal S64x5 .f32) (n : Fin 64) (w : Fin 7) (x : Fin 50) (s : Fin 2 → EReal)
    (hs : ∀ i : Fin 2, s i = smp (B (ix2 n 1)) (B (ix2 n 3)) (w.val * 2 + i.val)) (i : Fin 2) :
    k0_pay27 (k0_pay20 (k0_pay7 B)) (k0_pay21 (k0_pay7 B)) (k0_pay23 (k0_pay7 B)) (k0_pay24 (k0_pay7 B))
        (k0_pay25 (k0_pay7 B)) (ix4 n w i x)
      = (if x = ⟨lo (s i), lo_lt _⟩ then (((1 - fr (s i)) * ok (s i) : ℝ) : EReal) else 0)
          + (if x = ⟨up (s i), up_lt _⟩ then ((fr (s i) * ok (s i) : ℝ) : EReal) else 0) := by
  pointwise [k0_pay27]
  simp only [pay20_at, pay21_at, pay23_at, pay24_at, pay25_at, pay7_at]
  simp only [← hs i]
  have hl := lo_lt (s i)
  have hu := up_lt (s i)
  rw [fptosi_nat _ (by omega), fptosi_nat _ (by omega), select_eq_nat _ _ (by omega) (by omega),
    select_eq_nat _ _ (by omega) (by omega)]
  simp only [Fin.ext_iff, EReal.coe_mul]

/-- What one grid point computes, for a roi on image `b`, as the quarter of the sum of its bin's four masked bilinear
    samples. -/
theorem blkOut_at (B : Vec Ideal S64x5 .f32) (S : Vec Ideal S100x12800 .bf16) (n : Fin 64) (p q : Fin 7) (c : Fin 256)
    (b : ℕ) (hb : b < 2) (h0 : B (ix2 n 0) = ((b : ℝ) : EReal)) (s t : Fin 2 → EReal)
    (hs : ∀ i : Fin 2, s i = smp (B (ix2 n 2)) (B (ix2 n 4)) (p.val * 2 + i.val))
    (ht : ∀ i : Fin 2, t i = smp (B (ix2 n 1)) (B (ix2 n 3)) (q.val * 2 + i.val))
    (f : Fin 100 → Fin 50 → EReal) (hf : ∀ r x, f r x = S (ix2 r ⟨x.val * 256 + c.val, by omega⟩)) :
    blkOut B S (ix3 ⟨p.val * 7 + q.val, by omega⟩ n c)
      = ((1 / 4 : ℝ) : EReal) * ∑ i : Fin 2, ∑ j : Fin 2, ((ok (s i) * ok (t j) : ℝ) : EReal) *
        (((1 - fr (s i) : ℝ) : EReal) * ((1 - fr (t j) : ℝ) : EReal)
            * f ⟨lo (s i) + 50 * b, by have := lo_lt (s i); omega⟩ ⟨lo (t j), lo_lt _⟩
          + ((1 - fr (s i) : ℝ) : EReal) * ((fr (t j) : ℝ) : EReal)
            * f ⟨lo (s i) + 50 * b, by have := lo_lt (s i); omega⟩ ⟨up (t j), up_lt _⟩
          + ((fr (s i) : ℝ) : EReal) * ((1 - fr (t j) : ℝ) : EReal)
            * f ⟨up (s i) + 50 * b, by have := up_lt (s i); omega⟩ ⟨lo (t j), lo_lt _⟩
          + ((fr (s i) : ℝ) : EReal) * ((fr (t j) : ℝ) : EReal)
            * f ⟨up (s i) + 50 * b, by have := up_lt (s i); omega⟩ ⟨up (t j), up_lt _⟩) := by
  refine Eq.trans ?_ (quad (fun i => 1 - fr (s i)) (fun i => fr (s i)) (fun i => ok (s i)) (fun j => 1 - fr (t j))
    (fun j => fr (t j)) (fun j => ok (t j)) (fun i => fr_le _) (fun i => fr_nonneg _) (fun i => ok_nonneg _)
    (fun i => fr_le _) (fun i => fr_nonneg _) (fun i => ok_nonneg _)
    (fun i => ⟨lo (s i) + 50 * b, by have := lo_lt (s i); omega⟩) (fun i => ⟨up (s i) + 50 * b, by have := up_lt (s i); omega⟩)
    (fun j => ⟨lo (t j), lo_lt _⟩) (fun j => ⟨up (t j), up_lt _⟩) f)
  unfold blkOut
  pointwise [k0_pay1]
  refine Finset.sum_congr rfl fun x _ => ?_
  rw [litHalf]
  simp only [rowX B n q x t ht, fun r => rowY B n p r b hb h0 s hs, hf]

end Cert.KernelIdeal.Val
-- ==== Proof.RVal.lean ====
/-
  The reference's stages read entry by entry, in terms of the pixels, fractions and validities of the roi's sample
  coordinates.
-/
module

public import proofs.«01_k».proof.Proof.Gen.ReferenceIdeal.Read
public import proofs.«01_k».proof.Proof.KVal

@[expose] public section

set_option maxRecDepth 16384
noncomputable section
open Idealize.ShloMosaic Idealize.SL.Sem

namespace Cert.RoiMath

/-- A small word is not negative, so the wrap of negative indices leaves it. -/
theorem wrap_nat (n : ℕ) (h : n < 1000) (x : BitVec 32) :
    Scalar.select (IntOp.cmpi .slt (BitVec.ofNat 32 n) 0#32) x (BitVec.ofNat 32 n) = BitVec.ofNat 32 n := by
  have e : (BitVec.ofNat 32 n).slt 0#32 = false := by
    have hn : (BitVec.ofNat 32 n).toInt = (n : ℤ) := by
      rw [BitVec.toInt_eq_toNat_cond, BitVec.toNat_ofNat, Nat.mod_eq_of_lt (by omega)]
      rw [if_pos (by omega)]
    simp [BitVec.slt, hn]
  simp [Scalar.select, IntOp.cmpi, e]

/-- A small word read signed is its number. -/
theorem toInt_nat (n : ℕ) (h : n < 1000) : (BitVec.ofNat 32 n).toInt.toNat = n := by
  rw [BitVec.toInt_eq_toNat_cond, BitVec.toNat_ofNat, Nat.mod_eq_of_lt (by omega), if_pos (by omega)]
  rfl

end Cert.RoiMath

namespace Cert.ReferenceIdeal.Val
open Cert.ReferenceIdeal Cert.ReferenceIdeal.Read Cert.RoiMath

section
variable (R : Vec Ideal S512x5 .f32) (n : Fin 512) (j : Fin 196)

/-- The vertical coordinate of sample `j` of the 196, which is number `j / 14` of the fourteen along the axis. -/
theorem v57_at :
    val_main_v57 (F := Ideal) R (ix2 n j) = smp (R (ix2 n 2)) (R (ix2 n 4)) (j.val / 14) := by
  pointwise [val_main_v7, val_main_v8, val_main_cst_0, val_main_v9, val_main_v10, val_main_v15, val_main_v16, val_main_cst_2, val_main_v17, val_main_v18, val_main_v22, val_main_cst_4, val_main_v23, val_main_v24, val_main_cst_5, val_main_v25, val_main_v26, val_main_v29, val_main_v31, val_main_v32, val_main_cst_7, val_main_v33, val_main_v34, val_main_cst_8, val_main_v35, val_main_v36, val_main_v37, val_main_v38, val_main_v39, val_main_v40, val_main_v41, val_main_v42, val_main_v55, val_main_v56, val_main_v57]
  rfl

/-- The horizontal coordinate of sample `j` of the 196, which is number `j % 14` of the fourteen along the axis. -/
theorem v60_at :
    val_main_v60 (F := Ideal) R (ix2 n j) = smp (R (ix2 n 1)) (R (ix2 n 3)) (j.val % 14) := by
  pointwise [val_main_v3, val_main_v4, val_main_cst, val_main_v5, val_main_v6, val_main_v11, val_main_v12, val_main_cst_1, val_main_v13, val_main_v14, val_main_v19, val_main_cst_3, val_main_v20, val_main_v21, val_main_cst_6, val_main_v27, val_main_v28, val_main_v30, val_main_v43, val_main_v44, val_main_cst_9, val_main_v45, val_main_v46, val_main_cst_10, val_main_v47, val_main_v48, val_main_v49, val_main_v50, val_main_v51, val_main_v52, val_main_v53, val_main_v54, val_main_v58, val_main_v59, val_main_v60]
  rfl

/-- The pixel below the vertical coordinate. -/
theorem v77_at :
    val_main_v77 (F := Ideal) R (ix2 n j) = ((lo (val_main_v57 (F := Ideal) R (ix2 n j)) : ℝ) : EReal) := by
  pointwise [val_main_cst_15, val_main_v72, val_main_v73, val_main_v74, val_main_cst_16, val_main_v75, val_main_v76, val_main_cst_17, val_main_call0_v0, val_main_call0_v1, val_main_v77]
  exact lo_eq _

/-- The pixel above the vertical coordinate. -/
theorem v80_at :
    val_main_v80 (F := Ideal) R (ix2 n j) = ((up (val_main_v57 (F := Ideal) R (ix2 n j)) : ℝ) : EReal) := by
  pointwise [val_main_cst_15, val_main_v72, val_main_v73, val_main_v74, val_main_cst_16, val_main_v75, val_main_v76, val_main_cst_18, val_main_v78, val_main_v79, val_main_cst_19, val_main_call1_v0, val_main_call1_v1, val_main_v80]
  rw [v77_at]
  exact up_eq' _

/-- The vertical fraction. -/
theorem v82_at :
    val_main_v82 (F := Ideal) R (ix2 n j) = ((fr (val_main_v57 (F := Ideal) R (ix2 n j)) : ℝ) : EReal) := by
  pointwise [val_main_cst_15, val_main_v72, val_main_v73, val_main_v74, val_main_cst_16, val_main_v75, val_main_v76, val_main_v81, val_main_v82]
  rw [v77_at]
  exact fr_eq' _

/-- One less the vertical fraction. -/
theorem v84_at :
    val_main_v84 (F := Ideal) R (ix2 n j) = ((1 - fr (val_main_v57 (F := Ideal) R (ix2 n j)) : ℝ) : EReal) := by
  pointwise [val_main_cst_20, val_main_v83, val_main_v84]
  rw [v82_at, one_sub_fr]

/-- The pixel below the vertical coordinate, as a word. -/
theorem v85_at :
    val_main_v85 (F := Ideal) R (ix2 n j) = BitVec.ofNat 32 (lo (val_main_v57 (F := Ideal) R (ix2 n j))) := by
  pointwise [val_main_v85]
  rw [v77_at]
  exact fptosi_nat _ (by have := lo_lt (val_main_v57 (F := Ideal) R (ix2 n j)); omega)

/-- The pixel above the vertical coordinate, as a word. -/
theorem v86_at :
    val_main_v86 (F := Ideal) R (ix2 n j) = BitVec.ofNat 32 (up (val_main_v57 (F := Ideal) R (ix2 n j))) := by
  pointwise [val_main_v86]
  rw [v80_at]
  exact fptosi_nat _ (by have := up_lt (val_main_v57 (F := Ideal) R (ix2 n j)); omega)

/-- The pixel below the horizontal coordinate. -/
theorem v92_at :
    val_main_v92 (F := Ideal) R (ix2 n j) = ((lo (val_main_v60 (F := Ideal) R (ix2 n j)) : ℝ) : EReal) := by
  pointwise [val_main_cst_21, val_main_v87, val_main_v88, val_main_v89, val_main_cst_22, val_main_v90, val_main_v91, val_main_cst_23, val_main_call3_v0, val_main_call3_v1, val_main_v92]
  exact lo_eq _

/-- The pixel above the horizontal coordinate. -/
theorem v95_at :
    val_main_v95 (F := Ideal) R (ix2 n j) = ((up (val_main_v60 (F := Ideal) R (ix2 n j)) : ℝ) : EReal) := by
  pointwise [val_main_cst_21, val_main_v87, val_main_v88, val_main_v89, val_main_cst_22, val_main_v90, val_main_v91, val_main_cst_24, val_main_v93, val_main_v94, val_main_cst_25, val_main_call4_v0, val_main_call4_v1, val_main_v95]
  rw [v92_at]
  exact up_eq' _

/-- The horizontal fraction. -/
theorem v97_at :
    val_main_v97 (F := Ideal) R (ix2 n j) = ((fr (val_main_v60 (F := Ideal) R (ix2 n j)) : ℝ) : EReal) := by
  pointwise [val_main_cst_21, val_main_v87, val_main_v88, val_main_v89, val_main_cst_22, val_main_v90, val_main_v91, val_main_v96, val_main_v97]
  rw [v92_at]
  exact fr_eq' _

/-- One less the horizontal fraction. -/
theorem v99_at :
    val_main_v99 (F := Ideal) R (ix2 n j) = ((1 - fr (val_main_v60 (F := Ideal) R (ix2 n j)) : ℝ) : EReal) := by
  pointwise [val_main_cst_26, val_main_v98, val_main_v99]
  rw [v97_at, one_sub_fr]

/-- The pixel below the horizontal coordinate, as a word. -/
theorem v100_at :
    val_main_v100 (F := Ideal) R (ix2 n j) = BitVec.ofNat 32 (lo (val_main_v60 (F := Ideal) R (ix2 n j))) := by
  pointwise [val_main_v100]
  rw [v92_at]
  exact fptosi_nat _ (by have := lo_lt (val_main_v60 (F := Ideal) R (ix2 n j)); omega)

/-- The pixel above the horizontal coordinate, as a word. -/
theorem v101_at :
    val_main_v101 (F := Ideal) R (ix2 n j) = BitVec.ofNat 32 (up (val_main_v60 (F := Ideal) R (ix2 n j))) := by
  pointwise [val_main_v101]
  rw [v95_at]
  exact fptosi_nat _ (by have := up_lt (val_main_v60 (F := Ideal) R (ix2 n j)); omega)

/-- The validity of a sample. -/
theorem v207_at :
    val_main_v207 (F := Ideal) R (ix3 n j 0) = ((ok (val_main_v57 (F := Ideal) R (ix2 n j)) * ok (val_main_v60 (F := Ideal) R (ix2 n j)) : ℝ) : EReal) := by
  pointwise [val_main_cst_11, val_main_v61, val_main_v62, val_main_cst_12, val_main_v63, val_main_v64, val_main_v65, val_main_cst_13, val_main_v66, val_main_v67, val_main_v68, val_main_cst_14, val_main_v69, val_main_v70, val_main_v71, val_main_v206, val_main_v207]
  exact ok_ref _ _

/-- The image a roi lies on, as a word. -/
theorem v106_at (b : ℕ) (hb : b < 2) (h0 : R (ix2 n 0) = ((b : ℝ) : EReal)) :
    val_main_v106 (F := Ideal) R (ix2 n 0) = BitVec.ofNat 32 b := by
  pointwise [val_main_v0, val_main_v1, val_main_v2, val_main_v106]
  rw [h0]
  exact fptosi_nat _ (by omega)

/-- The image index of a gather. -/
theorem v111_at (b : ℕ) (hb : b < 2) (h0 : R (ix2 n 0) = ((b : ℝ) : EReal)) :
    val_main_v111 (F := Ideal) R (ix2 n 0) = BitVec.ofNat 32 b := by
  pointwise [val_main_c, val_main_v107, val_main_v108, val_main_c_27, val_main_v109, val_main_v110, val_main_v111]
  rw [v106_at R n b hb h0]
  exact wrap_nat _ (by omega) _

/-- The row index of a gather. -/
theorem v116_at :
    val_main_v116 (F := Ideal) R (ix2 n j) = BitVec.ofNat 32 (lo (val_main_v57 (F := Ideal) R (ix2 n j))) := by
  pointwise [val_main_c_28, val_main_v112, val_main_v113, val_main_c_29, val_main_v114, val_main_v115, val_main_v116]
  rw [v85_at]
  exact wrap_nat _ (by have := lo_lt (val_main_v57 (F := Ideal) R (ix2 n j)); omega) _

/-- The column index of a gather. -/
theorem v121_at :
    val_main_v121 (F := Ideal) R (ix2 n j) = BitVec.ofNat 32 (lo (val_main_v60 (F := Ideal) R (ix2 n j))) := by
  pointwise [val_main_c_30, val_main_v117, val_main_v118, val_main_c_31, val_main_v119, val_main_v120, val_main_v121]
  rw [v100_at]
  exact wrap_nat _ (by have := lo_lt (val_main_v60 (F := Ideal) R (ix2 n j)); omega) _

/-- One component of the start index of a gather. -/
theorem v126_at0 :
    val_main_v126 (F := Ideal) R (ix3 n j 0) = val_main_v111 (F := Ideal) R (ix2 n 0) := by
  pointwise [val_main_v122, val_main_v123, val_main_v124, val_main_v125, val_main_v126]

/-- One component of the start index of a gather. -/
theorem v126_at1 :
    val_main_v126 (F := Ideal) R (ix3 n j 1) = val_main_v116 (F := Ideal) R (ix2 n j) := by
  pointwise [val_main_v122, val_main_v123, val_main_v124, val_main_v125, val_main_v126]

/-- One component of the start index of a gather. -/
theorem v126_at2 :
    val_main_v126 (F := Ideal) R (ix3 n j 2) = val_main_v121 (F := Ideal) R (ix2 n j) := by
  pointwise [val_main_v122, val_main_v123, val_main_v124, val_main_v125, val_main_v126]

/-- The image index of a gather. -/
theorem v132_at (b : ℕ) (hb : b < 2) (h0 : R (ix2 n 0) = ((b : ℝ) : EReal)) :
    val_main_v132 (F := Ideal) R (ix2 n 0) = BitVec.ofNat 32 b := by
  pointwise [val_main_c_32, val_main_v128, val_main_v129, val_main_c_33, val_main_v130, val_main_v131, val_main_v132]
  rw [v106_at R n b hb h0]
  exact wrap_nat _ (by omega) _

/-- The row index of a gather. -/
theorem v137_at :
    val_main_v137 (F := Ideal) R (ix2 n j) = BitVec.ofNat 32 (lo (val_main_v57 (F := Ideal) R (ix2 n j))) := by
  pointwise [val_main_c_34, val_main_v133, val_main_v134, val_main_c_35, val_main_v135, val_main_v136, val_main_v137]
  rw [v85_at]
  exact wrap_nat _ (by have := lo_lt (val_main_v57 (F := Ideal) R (ix2 n j)); omega) _

/-- The column index of a gather. -/
theorem v142_at :
    val_main_v142 (F := Ideal) R (ix2 n j) = BitVec.ofNat 32 (up (val_main_v60 (F := Ideal) R (ix2 n j))) := by
  pointwise [val_main_c_36, val_main_v138, val_main_v139, val_main_c_37, val_main_v140, val_main_v141, val_main_v142]
  rw [v101_at]
  exact wrap_nat _ (by have := up_lt (val_main_v60 (F := Ideal) R (ix2 n j)); omega) _

/-- One component of the start index of a gather. -/
theorem v147_at0 :
    val_main_v147 (F := Ideal) R (ix3 n j 0) = val_main_v132 (F := Ideal) R (ix2 n 0) := by
  pointwise [val_main_v143, val_main_v144, val_main_v145, val_main_v146, val_main_v147]

/-- One component of the start index of a gather. -/
theorem v147_at1 :
    val_main_v147 (F := Ideal) R (ix3 n j 1) = val_main_v137 (F := Ideal) R (ix2 n j) := by
  pointwise [val_main_v143, val_main_v144, val_main_v145, val_main_v146, val_main_v147]

/-- One component of the start index of a gather. -/
theorem v147_at2 :
    val_main_v147 (F := Ideal) R (ix3 n j 2) = val_main_v142 (F := Ideal) R (ix2 n j) := by
  pointwise [val_main_v143, val_main_v144, val_main_v145, val_main_v146, val_main_v147]

/-- The image index of a gather. -/
theorem v153_at (b : ℕ) (hb : b < 2) (h0 : R (ix2 n 0) = ((b : ℝ) : EReal)) :
    val_main_v153 (F := Ideal) R (ix2 n 0) = BitVec.ofNat 32 b := by
  pointwise [val_main_c_38, val_main_v149, val_main_v150, val_main_c_39, val_main_v151, val_main_v152, val_main_v153]
  rw [v106_at R n b hb h0]
  exact wrap_nat _ (by omega) _

/-- The row index of a gather. -/
theorem v158_at :
    val_main_v158 (F := Ideal) R (ix2 n j) = BitVec.ofNat 32 (up (val_main_v57 (F := Ideal) R (ix2 n j))) := by
  pointwise [val_main_c_40, val_main_v154, val_main_v155, val_main_c_41, val_main_v156, val_main_v157, val_main_v158]
  rw [v86_at]
  exact wrap_nat _ (by have := up_lt (val_main_v57 (F := Ideal) R (ix2 n j)); omega) _

/-- The column index of a gather. -/
theorem v163_at :
    val_main_v163 (F := Ideal) R (ix2 n j) = BitVec.ofNat 32 (lo (val_main_v60 (F := Ideal) R (ix2 n j))) := by
  pointwise [val_main_c_42, val_main_v159, val_main_v160, val_main_c_43, val_main_v161, val_main_v162, val_main_v163]
  rw [v100_at]
  exact wrap_nat _ (by have := lo_lt (val_main_v60 (F := Ideal) R (ix2 n j)); omega) _

/-- One component of the start index of a gather. -/
theorem v168_at0 :
    val_main_v168 (F := Ideal) R (ix3 n j 0) = val_main_v153 (F := Ideal) R (ix2 n 0) := by
  pointwise [val_main_v164, val_main_v165, val_main_v166, val_main_v167, val_main_v168]

/-- One component of the start index of a gather. -/
theorem v168_at1 :
    val_main_v168 (F := Ideal) R (ix3 n j 1) = val_main_v158 (F := Ideal) R (ix2 n j) := by
  pointwise [val_main_v164, val_main_v165, val_main_v166, val_main_v167, val_main_v168]

/-- One component of the start index of a gather. -/
theorem v168_at2 :
    val_main_v168 (F := Ideal) R (ix3 n j 2) = val_main_v163 (F := Ideal) R (ix2 n j) := by
  pointwise [val_main_v164, val_main_v165, val_main_v166, val_main_v167, val_main_v168]

/-- The image index of a gather. -/
theorem v174_at (b : ℕ) (hb : b < 2) (h0 : R (ix2 n 0) = ((b : ℝ) : EReal)) :
    val_main_v174 (F := Ideal) R (ix2 n 0) = BitVec.ofNat 32 b := by
  pointwise [val_main_c_44, val_main_v170, val_main_v171, val_main_c_45, val_main_v172, val_main_v173, val_main_v174]
  rw [v106_at R n b hb h0]
  exact wrap_nat _ (by omega) _

/-- The row index of a gather. -/
theorem v179_at :
    val_main_v179 (F := Ideal) R (ix2 n j) = BitVec.ofNat 32 (up (val_main_v57 (F := Ideal) R (ix2 n j))) := by
  pointwise [val_main_c_46, val_main_v175, val_main_v176, val_main_c_47, val_main_v177, val_main_v178, val_main_v179]
  rw [v86_at]
  exact wrap_nat _ (by have := up_lt (val_main_v57 (F := Ideal) R (ix2 n j)); omega) _

/-- The column index of a gather. -/
theorem v184_at :
    val_main_v184 (F := Ideal) R (ix2 n j) = BitVec.ofNat 32 (up (val_main_v60 (F := Ideal) R (ix2 n j))) := by
  pointwise [val_main_c_48, val_main_v180, val_main_v181, val_main_c_49, val_main_v182, val_main_v183, val_main_v184]
  rw [v101_at]
  exact wrap_nat _ (by have := up_lt (val_main_v60 (F := Ideal) R (ix2 n j)); omega) _

/-- One component of the start index of a gather. -/
theorem v189_at0 :
    val_main_v189 (F := Ideal) R (ix3 n j 0) = val_main_v174 (F := Ideal) R (ix2 n 0) := by
  pointwise [val_main_v185, val_main_v186, val_main_v187, val_main_v188, val_main_v189]

/-- One component of the start index of a gather. -/
theorem v189_at1 :
    val_main_v189 (F := Ideal) R (ix3 n j 1) = val_main_v179 (F := Ideal) R (ix2 n j) := by
  pointwise [val_main_v185, val_main_v186, val_main_v187, val_main_v188, val_main_v189]

/-- One component of the start index of a gather. -/
theorem v189_at2 :
    val_main_v189 (F := Ideal) R (ix3 n j 2) = val_main_v184 (F := Ideal) R (ix2 n j) := by
  pointwise [val_main_v185, val_main_v186, val_main_v187, val_main_v188, val_main_v189]

end

/-- The gather read at an index: the image, row and column the start index names, of the result's channel. -/
theorem gather_at (A : Vec Ideal S2x256x50x50 .f32) (idx : IVec S512x196x3 32) (n : Fin 512) (j : Fin 196) (c : Fin 256)
    (b : ℕ) (hb : b < 2) (y : ℕ) (hy : y < 50) (x : ℕ) (hx : x < 50) (h0 : idx (ix3 n j 0) = BitVec.ofNat 32 b)
    (h1 : idx (ix3 n j 1) = BitVec.ofNat 32 y) (h2 : idx (ix3 n j 2) = BitVec.ofNat 32 x) :
    (Host.gather gather_S2x256x50x50_S512x196x3_S512x196x256_2_023_n_n_023_2_125611 A idx : Vec Ideal S512x196x256 .f32) (ix3 n j c)
      = A (ix4 ⟨b, hb⟩ c ⟨y, hy⟩ ⟨x, hx⟩) := by
  unfold Host.gather
  refine congrArg A ?_
  have hsi : ∀ (k : Fin 3), gather_S2x256x50x50_S512x196x3_S512x196x256_2_023_n_n_023_2_125611.siIdx (ix3 n j c) k = ix3 n j k := fun k => by
    funext a; refine Fin.ext ?_
    match a with
    | ⟨0, _⟩ => rfl
    | ⟨1, _⟩ => rfl
    | ⟨2, _⟩ => rfl
  have hs : ∀ (a : Fin 4) (k : Fin 3) (q : ℕ) (hm : a ∈ gather_S2x256x50x50_S512x196x3_S512x196x256_2_023_n_n_023_2_125611.startIndexMap)
      (hk : gather_S2x256x50x50_S512x196x3_S512x196x256_2_023_n_n_023_2_125611.startIndexMap.idxOf a = k.val) (hq : idx (ix3 n j k) = BitVec.ofNat 32 q) (hq' : q < 1000)
      (hc : a ∈ gather_S2x256x50x50_S512x196x3_S512x196x256_2_023_n_n_023_2_125611.collapsedSliceDims),
      gather_S2x256x50x50_S512x196x3_S512x196x256_2_023_n_n_023_2_125611.start (ix3 n j c) idx a
        + gather_S2x256x50x50_S512x196x3_S512x196x256_2_023_n_n_023_2_125611.batchCoord (ix3 n j c) a
        + gather_S2x256x50x50_S512x196x3_S512x196x256_2_023_n_n_023_2_125611.offCoord (ix3 n j c) a
      = min q (S2x256x50x50.size a - gather_S2x256x50x50_S512x196x3_S512x196x256_2_023_n_n_023_2_125611.sliceSizes a) := fun a k q hm hk hq hq' hc => by
    rw [GatherDims.batchCoord_eq_zero _ _ _ List.not_mem_nil,
      GatherDims.offCoord_eq_zero _ _ _ (fun h => ((GatherDims.mem_sKept _ _).mp h).1 hc)]
    unfold GatherDims.start
    rw [dif_pos hm]
    have hk' : (⟨gather_S2x256x50x50_S512x196x3_S512x196x256_2_023_n_n_023_2_125611.startIndexMap.idxOf a, List.idxOf_lt_length_iff.2 hm⟩ : Fin 3) = k := Fin.ext hk
    have e := (congrArg idx ((hsi _).trans (congrArg (ix3 n j) hk'))).trans hq
    refine (congrArg (fun w : BitVec 32 => min w.toInt.toNat (S2x256x50x50.size a
      - gather_S2x256x50x50_S512x196x3_S512x196x256_2_023_n_n_023_2_125611.sliceSizes a) + 0 + 0) e).trans ?_
    show min (BitVec.ofNat 32 q).toInt.toNat _ + 0 + 0 = _
    rw [toInt_nat q hq']
    rfl
  funext a
  refine Fin.ext ?_
  match a with
  | ⟨0, _⟩ => exact (hs 0 0 b (by decide) (by decide) h0 (by omega) (by decide)).trans (min_eq_left (show b ≤ 2 - 1 by omega))
  | ⟨1, _⟩ =>
    show gather_S2x256x50x50_S512x196x3_S512x196x256_2_023_n_n_023_2_125611.start (ix3 n j c) idx 1
        + gather_S2x256x50x50_S512x196x3_S512x196x256_2_023_n_n_023_2_125611.batchCoord (ix3 n j c) 1
        + gather_S2x256x50x50_S512x196x3_S512x196x256_2_023_n_n_023_2_125611.offCoord (ix3 n j c) 1 = c.val
    rw [GatherDims.batchCoord_eq_zero _ _ _ List.not_mem_nil]
    unfold GatherDims.start GatherDims.offCoord
    rw [dif_neg (by decide), dif_pos (by decide)]
    show 0 + 0 + c.val = c.val
    omega
  | ⟨2, _⟩ => exact (hs 2 1 y (by decide) (by decide) h1 (by omega) (by decide)).trans (min_eq_left (show y ≤ 50 - 1 by omega))
  | ⟨3, _⟩ => exact (hs 3 2 x (by decide) (by decide) h2 (by omega) (by decide)).trans (min_eq_left (show x ≤ 50 - 1 by omega))

/-- A corner pixel of a sample. -/
theorem v127_at (A : Vec Ideal S2x256x50x50 .f32) (R : Vec Ideal S512x5 .f32) (n : Fin 512) (j : Fin 196) (c : Fin 256)
    (b : ℕ) (hb : b < 2) (h0 : R (ix2 n 0) = ((b : ℝ) : EReal)) :
    val_main_v127 (F := Ideal) A R (ix3 n j c)
      = A (ix4 ⟨b, hb⟩ c ⟨lo (val_main_v57 (F := Ideal) R (ix2 n j)), lo_lt _⟩ ⟨lo (val_main_v60 (F := Ideal) R (ix2 n j)), lo_lt _⟩) :=
  gather_at A _ n j c b hb _ (lo_lt _) _ (lo_lt _) ((v126_at0 R n j).trans (v111_at R n b hb h0))
    ((v126_at1 R n j).trans (v116_at R n j)) ((v126_at2 R n j).trans (v121_at R n j))

/-- A corner pixel of a sample. -/
theorem v148_at (A : Vec Ideal S2x256x50x50 .f32) (R : Vec Ideal S512x5 .f32) (n : Fin 512) (j : Fin 196) (c : Fin 256)
    (b : ℕ) (hb : b < 2) (h0 : R (ix2 n 0) = ((b : ℝ) : EReal)) :
    val_main_v148 (F := Ideal) A R (ix3 n j c)
      = A (ix4 ⟨b, hb⟩ c ⟨lo (val_main_v57 (F := Ideal) R (ix2 n j)), lo_lt _⟩ ⟨up (val_main_v60 (F := Ideal) R (ix2 n j)), up_lt _⟩) :=
  gather_at A _ n j c b hb _ (lo_lt _) _ (up_lt _) ((v147_at0 R n j).trans (v132_at R n b hb h0))
    ((v147_at1 R n j).trans (v137_at R n j)) ((v147_at2 R n j).trans (v142_at R n j))

/-- A corner pixel of a sample. -/
theorem v169_at (A : Vec Ideal S2x256x50x50 .f32) (R : Vec Ideal S512x5 .f32) (n : Fin 512) (j : Fin 196) (c : Fin 256)
    (b : ℕ) (hb : b < 2) (h0 : R (ix2 n 0) = ((b : ℝ) : EReal)) :
    val_main_v169 (F := Ideal) A R (ix3 n j c)
      = A (ix4 ⟨b, hb⟩ c ⟨up (val_main_v57 (F := Ideal) R (ix2 n j)), up_lt _⟩ ⟨lo (val_main_v60 (F := Ideal) R (ix2 n j)), lo_lt _⟩) :=
  gather_at A _ n j c b hb _ (up_lt _) _ (lo_lt _) ((v168_at0 R n j).trans (v153_at R n b hb h0))
    ((v168_at1 R n j).trans (v158_at R n j)) ((v168_at2 R n j).trans (v163_at R n j))

/-- A corner pixel of a sample. -/
theorem v190_at (A : Vec Ideal S2x256x50x50 .f32) (R : Vec Ideal S512x5 .f32) (n : Fin 512) (j : Fin 196) (c : Fin 256)
    (b : ℕ) (hb : b < 2) (h0 : R (ix2 n 0) = ((b : ℝ) : EReal)) :
    val_main_v190 (F := Ideal) A R (ix3 n j c)
      = A (ix4 ⟨b, hb⟩ c ⟨up (val_main_v57 (F := Ideal) R (ix2 n j)), up_lt _⟩ ⟨up (val_main_v60 (F := Ideal) R (ix2 n j)), up_lt _⟩) :=
  gather_at A _ n j c b hb _ (up_lt _) _ (up_lt _) ((v189_at0 R n j).trans (v174_at R n b hb h0))
    ((v189_at1 R n j).trans (v179_at R n j)) ((v189_at2 R n j).trans (v184_at R n j))

/-- One masked bilinear sample of the reference. -/
theorem v209_at (A : Vec Ideal S2x256x50x50 .f32) (R : Vec Ideal S512x5 .f32) (n : Fin 512) (j : Fin 196) (c : Fin 256)
    (b : ℕ) (hb : b < 2) (h0 : R (ix2 n 0) = ((b : ℝ) : EReal)) (s t : EReal) (hs : val_main_v57 (F := Ideal) R (ix2 n j) = s) (ht : val_main_v60 (F := Ideal) R (ix2 n j) = t) :
    val_main_v209 (F := Ideal) A R (ix3 n j c)
      = ((ok s * ok t : ℝ) : EReal) *
        (((1 - fr s : ℝ) : EReal) * ((1 - fr t : ℝ) : EReal) * A (ix4 ⟨b, hb⟩ c ⟨lo s, lo_lt _⟩ ⟨lo t, lo_lt _⟩)
          + ((1 - fr s : ℝ) : EReal) * ((fr t : ℝ) : EReal) * A (ix4 ⟨b, hb⟩ c ⟨lo s, lo_lt _⟩ ⟨up t, up_lt _⟩)
          + ((fr s : ℝ) : EReal) * ((1 - fr t : ℝ) : EReal) * A (ix4 ⟨b, hb⟩ c ⟨up s, up_lt _⟩ ⟨lo t, lo_lt _⟩)
          + ((fr s : ℝ) : EReal) * ((fr t : ℝ) : EReal) * A (ix4 ⟨b, hb⟩ c ⟨up s, up_lt _⟩ ⟨up t, up_lt _⟩)) := by
  subst hs ht
  pointwise [val_main_v102, val_main_v103, val_main_v104, val_main_v105, val_main_v191, val_main_v192, val_main_v193, val_main_v194, val_main_v195, val_main_v196, val_main_v197, val_main_v198, val_main_v199, val_main_v200, val_main_v201, val_main_v202, val_main_v203, val_main_v204, val_main_v205, val_main_v208, val_main_v209]
  rw [v127_at A R n j c b hb h0, v148_at A R n j c b hb h0, v169_at A R n j c b hb h0, v190_at A R n j c b hb h0,
    v82_at, v84_at, v97_at, v99_at, v207_at, mul_comm]

/-- The sum over a bin's samples: the reduction over axes 2 and 4. -/
theorem reduce_at (h : S512x7x2x7x2x256.ReducesTo [2, 4] S512x7x7x256) (X : Vec Ideal S512x7x2x7x2x256 .f32) (init : EReal) (n : Fin 512) (p q : Fin 7) (c : Fin 256) :
    Ideal.hostReduceAdd h X init (ix4 n p q c)
      = init + ∑ i : Fin 2, ∑ j : Fin 2, X (ix6 n p i q j c) := by
  refine congrArg (init + ·) ?_
  refine (Finset.sum_filter_eq_sum_of_fiber _ (fun k : Fin 2 × Fin 2 => ix6 n p k.1 q k.2 c)
    (fun a b e => Prod.ext (congrFun e 2) (congrFun e 4)) (fun i => ?_) X).trans (Fintype.sum_prod_type _)
  constructor
  · intro e
    refine ⟨(i 2, i 4), ?_⟩
    funext a; apply Fin.ext
    match a with
    | ⟨0, _⟩ => exact (congrArg Fin.val (congrFun e 0)).symm
    | ⟨1, _⟩ => exact (congrArg Fin.val (congrFun e 1)).symm
    | ⟨2, _⟩ => rfl
    | ⟨3, _⟩ => exact (congrArg Fin.val (congrFun e 2)).symm
    | ⟨4, _⟩ => rfl
    | ⟨5, _⟩ => exact (congrArg Fin.val (congrFun e 3)).symm
  · rintro ⟨k, rfl⟩
    funext a; apply Fin.ext
    match a with
    | ⟨0, _⟩ => rfl
    | ⟨1, _⟩ => rfl
    | ⟨2, _⟩ => rfl
    | ⟨3, _⟩ => rfl

/-- The samples, laid out by bin: sample `(i, j)` of bin `(p, q)` is number `28 p + 14 i + 2 q + j` of the 196. -/
theorem v210_at (A : Vec Ideal S2x256x50x50 .f32) (R : Vec Ideal S512x5 .f32) (n : Fin 512) (p q : Fin 7) (i j : Fin 2)
    (c : Fin 256) :
    val_main_v210 (F := Ideal) A R (ix6 n p i q j c)
      = val_main_v209 (F := Ideal) A R (ix3 n ⟨(p.val * 2 + i.val) * 14 + (q.val * 2 + j.val), by omega⟩ c) := by
  pointwise [val_main_v210]
  exact congrArg (fun k => val_main_v209 (F := Ideal) A R (ix3 n k c)) (Fin.ext (by show _ + _ + _ + _ = (_ + _) * _ + (_ + _); omega))

/-- An entry of the reference's result: the sum of its bin's four samples, divided by four. -/
theorem v214_at (A : Vec Ideal S2x256x50x50 .f32) (R : Vec Ideal S512x5 .f32) (n : Fin 512) (c : Fin 256) (p q : Fin 7) :
    val_main_v214 (F := Ideal) A R (ix4 n c p q)
      = ((1 / 4 : ℝ) : EReal) * ∑ i : Fin 2, ∑ j : Fin 2,
          val_main_v209 (F := Ideal) A R (ix3 n ⟨(p.val * 2 + i.val) * 14 + (q.val * 2 + j.val), by omega⟩ c) := by
  have e : val_main_v211 (F := Ideal) A R (ix4 n p q c) = ∑ i : Fin 2, ∑ j : Fin 2,
      val_main_v209 (F := Ideal) A R (ix3 n ⟨(p.val * 2 + i.val) * 14 + (q.val * 2 + j.val), by omega⟩ c) := by
    unfold val_main_v211
    refine (reduce_at _ _ _ n p q c).trans ?_
    simp only [v210_at]
    refine (congrArg (· + _) ?_).trans (zero_add _)
    pointwise [val_main_cst_50]
  pointwise [val_main_cst_51, val_main_v212, val_main_v213, val_main_v214]
  rw [e, lit4, Ideal.div_coe (by norm_num), mul_comm]

end Cert.ReferenceIdeal.Val
-- ==== Proof.Value.lean ====
/-
  The value of the kernel is the value of the reference, entry by entry, when every roi's first field names one of the
  two images.
-/
module

public import proofs.«01_k».proof.Proof.KRun
public import proofs.«01_k».proof.Proof.RVal
public import proofs.«01_k».proof.Proof.Gen.Pre_image_index

@[expose] public section

set_option maxRecDepth 16384
noncomputable section
open Idealize.ShloMosaic Idealize.SL.Sem

namespace Cert.RoiAlign
open Cert.RoiMath Cert.KernelIdeal.Val

/-- The precondition read at a roi: its first field is zero or one. -/
theorem image_of_pre (A : Vec Ideal KernelIdeal.S2x256x50x50 .f32) (R : Vec Ideal KernelIdeal.S512x5 .f32)
    (h : Cert.Pre_image_index.fn (F := Ideal) A R = fun _ => 1#1) (n : Fin 512) :
    ∃ b : ℕ, b < 2 ∧ R (ix2 n 0) = ((b : ℝ) : EReal) := by
  have e := congrFun h (ix1 n)
  pointwise [Cert.Pre_image_index.fn] at e
  by_cases h0 : R (ix2 n 0) = 0
  · exact ⟨0, by omega, h0.trans (by simp)⟩
  by_cases h1 : R (ix2 n 0) = 1
  · exact ⟨1, by omega, h1.trans (by simp)⟩
  · exfalso
    rw [decide_eq_false h0, decide_eq_false h1] at e
    exact absurd e (by decide)

/-- The feature table of the kernel, read at image `b`'s row `y`: the image's own pixel. -/
theorem ft_at (A : Vec Ideal KernelIdeal.S2x256x50x50 .f32) (b : ℕ) (hb : b < 2) (y : ℕ) (hy : y < 50) (x : Fin 50) (k : Fin 256) :
    ft A (ix2 ⟨y + 50 * b, by omega⟩ ⟨x.val * 256 + k.val, by omega⟩) = A (ix4 ⟨b, hb⟩ k ⟨y, hy⟩ x) := by
  refine congrArg A ?_
  funext a; apply Fin.ext
  match a with
  | ⟨0, _⟩ => show (y + 50 * b) / 50 = b; omega
  | ⟨1, _⟩ => show (x.val * 256 + k.val) % 256 = k.val; omega
  | ⟨2, _⟩ => show (y + 50 * b) % 50 = y; omega
  | ⟨3, _⟩ => show (x.val * 256 + k.val) / 256 = x.val; omega

/-- The kernel's result and the reference's, at an entry. -/
theorem value (A : Vec Ideal KernelIdeal.S2x256x50x50 .f32) (R : Vec Ideal KernelIdeal.S512x5 .f32)
    (n : Fin 512) (k : Fin 256) (p q : Fin 7) (b : ℕ) (hb : b < 2) (h0 : R (ix2 n 0) = ((b : ℝ) : EReal)) :
    arr R (ft A) (ix3 ⟨p.val * 7 + q.val, by omega⟩ n k)
      = Cert.ReferenceIdeal.Read.val_main_v214 (F := Ideal) A R (ix4 n k p q) := by
  have hn : 64 * (n.val / 64) + n.val % 64 = n.val := by omega
  have hB : ∀ c : Fin 5, R (ix2 ⟨64 * (n.val / 64) + n.val % 64, by omega⟩ c) = R (ix2 n c) := fun c =>
    congrArg (fun z => R (ix2 z c)) (Fin.ext hn)
  refine (blkOut_at (fun z => R (ix2 ⟨64 * (n.val / 64) + (z 0).val, by have : (z 0).val < 64 := (z 0).isLt; omega⟩ ⟨(z 1).val, (z 1).isLt⟩))
    (ft A) ⟨n.val % 64, by omega⟩ p q k b hb ((hB 0).trans h0)
    (fun i => smp (R (ix2 n 2)) (R (ix2 n 4)) (p.val * 2 + i.val)) (fun i => smp (R (ix2 n 1)) (R (ix2 n 3)) (q.val * 2 + i.val))
    (fun i => ?_) (fun i => ?_) (fun r x => ft A (ix2 r ⟨x.val * 256 + k.val, by omega⟩)) (fun _ _ => rfl)).trans ?_
  · exact (congrArg₂ (fun u w => smp u w (p.val * 2 + i.val)) (hB 2) (hB 4)).symm
  · exact (congrArg₂ (fun u w => smp u w (q.val * 2 + i.val)) (hB 1) (hB 3)).symm
  rw [Cert.ReferenceIdeal.Val.v214_at]
  refine congrArg _ (Finset.sum_congr rfl fun i _ => Finset.sum_congr rfl fun j _ => ?_)
  rw [Cert.ReferenceIdeal.Val.v209_at A R n _ k b hb h0 (smp (R (ix2 n 2)) (R (ix2 n 4)) (p.val * 2 + i.val))
    (smp (R (ix2 n 1)) (R (ix2 n 3)) (q.val * 2 + j.val))
    ((Cert.ReferenceIdeal.Val.v57_at R n _).trans (congrArg _ (by show ((_ + _) * 14 + (_ + _)) / 14 = _ + _; omega)))
    ((Cert.ReferenceIdeal.Val.v60_at R n _).trans (congrArg _ (by show ((_ + _) * 14 + (_ + _)) % 14 = _ + _; omega)))]
  have hl := lo_lt (smp (R (ix2 n 2)) (R (ix2 n 4)) (p.val * 2 + i.val))
  have hu := up_lt (smp (R (ix2 n 2)) (R (ix2 n 4)) (p.val * 2 + i.val))
  rw [ft_at A b hb _ hl, ft_at A b hb _ hl, ft_at A b hb _ hu, ft_at A b hb _ hu]

end Cert.RoiAlign
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_image_index
public import proofs.«01_k».proof.Proof.Value
public import Idealize.ShloMosaic.Adequacy
public import Idealize.ShloMosaic.Init

@[expose] public section

noncomputable section

namespace Cert.Proof

open Idealize.ShloMosaic Idealize.SL.Sem

/-- The reference runs, its arguments end unchanged, and it declares no semaphore. -/
theorem frame_reference : Cert.quiescent_ReferenceIdeal := fun m g _ =>
  (θ_run Cert.ReferenceIdeal.defs _ _).mono
    (fun r h => ⟨fun c => ⟨(h c).2.1, (h c).2.2⟩, Idealize.ShloMosaic.sem_eq_zero_of_no_sems (by decide) r.2⟩)
    (Cert.ReferenceIdeal.Value.run (F := Ideal) m g)

/-- Every entry of the kernel's result buffer is the reference's, when each roi's first field names an image. -/
theorem result_eq (m : (ℓ : Loc Cert.KernelIdeal.nD Cert.KernelIdeal.τ Cert.KernelIdeal.sig) → Buf (Elt Ideal) ℓ)
    (hpre : Cert.Pre_KernelIdeal_image_index m) (c : Dev Cert.KernelIdeal.nD) :
    (Pipeline.afterTail₀ Cert.KernelIdeal.cfgs (Cert.KernelIdeal.Gen.dats m) 0 (Cert.KernelIdeal.Gen.V0 m)
        [Cert.KernelIdeal.Gen.hostOps1] c Cert.KernelIdeal.main_v4 : Vec Ideal Cert.KernelIdeal.S512x256x7x7 .f32)
      = Cert.ReferenceIdeal.Read.val_main_v214 (F := Ideal) (Cert.KernelIdeal.Val.img m c) (Cert.KernelIdeal.Val.roi m c) := by
  funext y
  obtain ⟨b, hb, h0⟩ := Cert.RoiAlign.image_of_pre _ _ (hpre c) (y 0)
  rw [show y = ix4 (y 0) (y 1) (y 2) (y 3) from by
    funext a; match a with
    | ⟨0, _⟩ => rfl
    | ⟨1, _⟩ => rfl
    | ⟨2, _⟩ => rfl
    | ⟨3, _⟩ => rfl]
  exact (Cert.KernelIdeal.Val.tail_out m c (y 0) (y 1) (y 2) (y 3)).trans
    (Cert.RoiAlign.value (Cert.KernelIdeal.Val.img m c) (Cert.KernelIdeal.Val.roi m c) (y 0) (y 1) (y 2) (y 3) b hb h0)

/-- From memories that agree on the arguments, the kernel and the reference end with the same result: the value of the
    reference's last stage at the image and the rois. -/
theorem algebraic : Cert.algebraic_KernelIdeal_ReferenceIdeal_pre_image_index := by
  intro m g m' g' hpre hagree
  refine ⟨fun c => Cert.ReferenceIdeal.Read.val_main_v214 (F := Ideal) (Cert.KernelIdeal.Val.img m c) (Cert.KernelIdeal.Val.roi m c), ?_, ?_⟩
  · refine (θ_run Cert.KernelIdeal.defs _ _).mono (fun r h c => ⟨?_, h.2.1 c⟩)
      (θ_run_and (Cert.KernelIdeal.Gen.run_main (F := Ideal) m g) (Cert.KernelIdeal.Gen.frame (F := Ideal) m g))
    exact ((h.1 c).2 Cert.KernelIdeal.main_v4 (Pipeline.mem_restRefs_of Cert.KernelIdeal.main_v4 (by decide) (by decide))).trans
      (result_eq m hpre c)
  · refine (θ_run Cert.ReferenceIdeal.defs _ _).mono (fun r h c => ⟨(h c).1.trans ?_, (h c).2⟩)
      (Cert.ReferenceIdeal.Value.run (F := Ideal) m' g')
    exact (Cert.ReferenceIdeal.Read.val_main_v214_eq (F := Ideal) _).trans
      (congrArg₂ (Cert.ReferenceIdeal.Read.val_main_v214 (F := Ideal)) (hagree c).1 (hagree c).2)

/-- All claims of the certificate. -/
theorem claim : Cert.Claim :=
  ⟨Cert.Kernel.Gen.facts, Cert.KernelIdeal.Gen.facts, Cert.ReferenceIdeal.Gen.facts, Cert.Pre_image_index.Gen.facts,
    fun m g _ => Cert.Kernel.Gen.frame m g,
    fun m g _ => Cert.KernelIdeal.Gen.frame m g,
    fun m g _ => Cert.KernelIdeal.Gen.frame m g,
    frame_reference,
    fun m g _ => frame_reference m g trivial,
    trivial,
    algebraic⟩

end Cert.Proof

end
